-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_graph [hPre_plain_graph : Cert.Pre_plain_graph.Facts] (m : (ℓ : Loc Cert.KernelIdeal.nD Cert.KernelIdeal.τ Cert.KernelIdeal.sig) → Buf (Elt Ideal) ℓ) : Prop :=
  ∀ c : Dev Cert.KernelIdeal.nD,
    (Cert.Pre_plain_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_plain_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_plain_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_plain_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_graph [hPre_plain_graph : Cert.Pre_plain_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_plain_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_plain_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_plain_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_plain_graph [hKernelIdeal : Cert.KernelIdeal.Facts] [hPre_plain_graph : Cert.Pre_plain_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_plain_graph [hReferenceIdeal : Cert.ReferenceIdeal.Facts] [hPre_plain_graph : Cert.Pre_plain_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_plain_graph [hKernelIdeal : Cert.KernelIdeal.Facts] [hReferenceIdeal : Cert.ReferenceIdeal.Facts] [hPre_plain_graph : Cert.Pre_plain_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_plain_graph : Cert.Pre_plain_graph.Facts),
    quiescent_Kernel (hKernel := hKernel)
    ∧ quiescent_KernelIdeal (hKernelIdeal := hKernelIdeal)
    ∧ quiescent_KernelIdeal_pre_plain_graph (hKernelIdeal := hKernelIdeal) (hPre_plain_graph := hPre_plain_graph)
    ∧ quiescent_ReferenceIdeal (hReferenceIdeal := hReferenceIdeal)
    ∧ quiescent_ReferenceIdeal_pre_plain_graph (hReferenceIdeal := hReferenceIdeal) (hPre_plain_graph := hPre_plain_graph)
    ∧ preserves_Kernel_KernelIdeal
    ∧ algebraic_KernelIdeal_ReferenceIdeal_pre_plain_graph (hKernelIdeal := hKernelIdeal) (hReferenceIdeal := hReferenceIdeal) (hPre_plain_graph := hPre_plain_graph)
-- ==== Pre_plain_graph.lean ====
abbrev S8x2048x256 : Shape := ⟨3, ![8, 2048, 256]⟩
abbrev S2048x2048 : Shape := ⟨2, ![2048, 2048]⟩
abbrev S2x256x1 : Shape := ⟨3, ![2, 256, 1]⟩
abbrev S1 : Shape := ⟨1, ![1]⟩
abbrev S_ : Shape := ⟨0, ![]⟩
abbrev S1x256x1 : Shape := ⟨3, ![1, 256, 1]⟩
abbrev S256x1 : Shape := ⟨2, ![256, 1]⟩

class Facts : Prop where
  transposes_S2048x2048_S2048x2048_1_0 : S2048x2048.Transposes [1, 0] S2048x2048
  bcast_S_S2048x2048 : S_.BroadcastsInDim S2048x2048 (![] : Fin 0 → Fin S2048x2048.rank)
  bcast_S_S8x2048x256 : S_.BroadcastsInDim S8x2048x256 (![] : Fin 0 → Fin S8x2048x256.rank)
  slices_S2x256x1_S1x256x1_1_0_0 : S2x256x1.Slices ![1, 0, 0] S1x256x1
  shapeCasts_S1x256x1_S256x1 : S1x256x1.ShapeCasts S256x1
  bcast_S_S256x1 : S_.BroadcastsInDim S256x1 (![] : Fin 0 → Fin S256x1.rank)

variable [Facts]

def fn {F : FTy → Type} [FloatOps F] (main_arg0 : FVec F S8x2048x256 .f32) (main_arg1 : FVec F S2048x2048 .f32) (main_arg2 : FVec F S2x256x1 .f32) (main_arg3 : FVec F S1 .f32) : IVec S2048x2048 1 × IVec S2048x2048 1 × IVec S8x2048x256 1 × IVec S256x1 1 :=
  let main_v0 : FVec F S2048x2048 .f32 := (transpose S2048x2048 [1, 0] · transposes_S2048x2048_S2048x2048_1_0) main_arg1
  let main_v1 : IVec S2048x2048 1 := cmpf .oeq main_arg1 main_v0
  let main_cst : FVec F S_ .f32 := constant S_ .f32 0x00000000#32
  let main_v2 : FVec F S2048x2048 .f32 := broadcastInDim S2048x2048 ![] bcast_S_S2048x2048 main_cst
  let main_v3 : IVec S2048x2048 1 := cmpf .oge main_arg1 main_v2
  let main_v4 : FVec F S8x2048x256 .f32 := Host.absf main_arg0
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_v7 : FVec F S1x256x1 .f32 := (extractStridedSlice S1x256x1 ![1, 0, 0] · slices_S2x256x1_S1x256x1_1_0_0) main_arg2
  let main_v8 : FVec F S256x1 .f32 := shapeCast S256x1 main_v7 shapeCasts_S1x256x1_S256x1
  let main_v9 : FVec F S256x1 .f32 := Host.absf main_v8
  let main_cst_1 : FVec F S_ .f32 := constant S_ .f32 0x7F800000#32
  let main_v10 : FVec F S256x1 .f32 := broadcastInDim S256x1 ![] bcast_S_S256x1 main_cst_1
  let main_v11 : IVec S256x1 1 := cmpf .olt main_v9 main_v10
  (main_v1, main_v3, main_v6, main_v11)
-- ==== Kernel.lean ====
abbrev S8x2048x256 : Shape := ⟨3, ![8, 2048, 256]⟩
abbrev S2048x2048 : Shape := ⟨2, ![2048, 2048]⟩
abbrev S2x256x1 : Shape := ⟨3, ![2, 256, 1]⟩
abbrev S1 : Shape := ⟨1, ![1]⟩
abbrev S2x256 : Shape := ⟨2, ![2, 256]⟩
abbrev S1x1 : Shape := ⟨2, ![1, 1]⟩
abbrev S8x2048x257 : Shape := ⟨3, ![8, 2048, 257]⟩
abbrev S512x2048 : Shape := ⟨2, ![512, 2048]⟩
abbrev S8x512x256 : Shape := ⟨3, ![8, 512, 256]⟩
abbrev S1x2048x257 : Shape := ⟨3, ![1, 2048, 257]⟩
abbrev S1x2048 : Shape := ⟨2, ![1, 2048]⟩
abbrev S8x2048 : Shape := ⟨2, ![8, 2048]⟩
abbrev S512 : Shape := ⟨1, ![512]⟩
abbrev S512x1 : Shape := ⟨2, ![512, 1]⟩
abbrev S2048 : Shape := ⟨1, ![2048]⟩
abbrev S2x8x512 : Shape := ⟨3, ![2, 8, 512]⟩
abbrev S1x8x512 : Shape := ⟨3, ![1, 8, 512]⟩
abbrev S8x512 : Shape := ⟨2, ![8, 512]⟩
abbrev S1x2048x256 : Shape := ⟨3, ![1, 2048, 256]⟩
abbrev S2048x256 : Shape := ⟨2, ![2048, 256]⟩
abbrev S2048x1 : Shape := ⟨2, ![2048, 1]⟩
abbrev S1x2048x1 : Shape := ⟨3, ![1, 2048, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x2048x256, .f32⟩
  | .hbm, ⟨1, _⟩ => ⟨S2048x2048, .f32⟩
  | .hbm, ⟨2, _⟩ => ⟨S2x256x1, .f32⟩
  | .hbm, ⟨3, _⟩ => ⟨S1, .f32⟩
  | .hbm, ⟨4, _⟩ => ⟨S2x256, .f32⟩
  | .hbm, ⟨5, _⟩ => ⟨S1x1, .f32⟩
  | .hbm, ⟨6, _⟩ => ⟨S8x2048x257, .f32⟩
  | .local _ .vmem, ⟨0, _⟩ => ⟨S512x2048, .f32⟩
  | .local _ .vmem, ⟨1, _⟩ => ⟨S512x2048, .f32⟩
  | .local _ .vmem, ⟨2, _⟩ => ⟨S8x512x256, .f32⟩
  | .local _ .vmem, ⟨3, _⟩ => ⟨S8x512x256, .f32⟩
  | .local _ .vmem, ⟨4, _⟩ => ⟨S2x256, .f32⟩
  | .local _ .vmem, ⟨5, _⟩ => ⟨S1x1, .f32⟩
  | .local _ .vmem, ⟨6, _⟩ => ⟨S1x2048x257, .f32⟩
  | .local _ .vmem, ⟨7, _⟩ => ⟨S1x2048x257, .f32⟩
  | .local _ .vmem, ⟨8, _⟩ => ⟨S8x2048x256, .f32⟩
  | .local _ .vmem, ⟨9, _⟩ => ⟨S1x2048, .f32⟩
  | .local _ .vmem, ⟨10, _⟩ => ⟨S8x2048, .f32⟩
  | .local _ .vmem, ⟨11, _⟩ => ⟨S8x2048, .f32⟩
  | .local _ .vmem, ⟨12, _⟩ => ⟨S8x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) : Fin 3 → Nat :=
  let c0_13 : Index := 0#32
  let arg0 : BitVec 32 := BitVec.ofNat 32 (i 0).val
  let c512_i32 : BitVec 32 := 512#32
  let v27 : BitVec 32 := Scalar.muli arg0 c512_i32
  let v28 : Index := Scalar.indexCast v27
  let c0_14 : Index := 0#32
  ![0, v28.toNat, 0]
def k0_off2 (i : grid0.Coords) : Fin 2 → Nat :=
  let c0_19 : Index := 0#32
  let arg0 : BitVec 32 := BitVec.ofNat 32 (i 0).val
  let c512_i32_18 : BitVec 32 := 512#32
  let v37 : BitVec 32 := Scalar.muli arg0 c512_i32_18
  let v38 : Index := Scalar.indexCast v37
  ![0, v38.toNat]
def k0_cond5 (i : grid0.Coords) : BitVec 1 :=
  let arg0 : BitVec 32 := BitVec.ofNat 32 (i 0).val
  let c4_i32_2 : BitVec 32 := 4#32
  let v6 : BitVec 1 := Scalar.cmpi .sge arg0 c4_i32_2
  let v7 : BitVec 32 := Scalar.extui v6
  let c0_i32_3 : BitVec 32 := 0#32
  let v8 : BitVec 1 := Scalar.cmpi .ne v7 c0_i32_3
  v8

def k0_off3 (i : grid0.Coords) : Fin 3 → Nat :=
  let arg0 : BitVec 32 := BitVec.ofNat 32 (i 0).val
  let c4_i32_4 : BitVec 32 := 4#32
  let v9 : BitVec 32 := Scalar.subi arg0 c4_i32_4
  let v10 : Index := Scalar.indexCast v9
  let c0 : Index := 0#32
  let c0_5 : Index := 0#32
  ![v10.toNat, 0, 0]
def k0_off4 (i : grid0.Coords) : Fin 2 → Nat :=
  let arg0 : BitVec 32 := BitVec.ofNat 32 (i 0).val
  let c4_i32_4 : BitVec 32 := 4#32
  let v9 : BitVec 32 := Scalar.subi arg0 c4_i32_4
  let v16 : Index := Scalar.indexCast v9
  let c0_9 : Index := 0#32
  ![v16.toNat, 0]
def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x2048x256 : Shape := ⟨3, ![8, 2048, 256]⟩
abbrev S2048x2048 : Shape := ⟨2, ![2048, 2048]⟩
abbrev S2x256x1 : Shape := ⟨3, ![2, 256, 1]⟩
abbrev S1 : Shape := ⟨1, ![1]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S1x256x1 : Shape := ⟨3, ![1, 256, 1]⟩
abbrev S256x1 : Shape := ⟨2, ![256, 1]⟩
abbrev S8x2048x1 : Shape := ⟨3, ![8, 2048, 1]⟩
abbrev S8x256x2048 : Shape := ⟨3, ![8, 256, 2048]⟩
abbrev S1x1x1 : Shape := ⟨3, ![1, 1, 1]⟩
abbrev S8x2048x257 : Shape := ⟨3, ![8, 2048, 257]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S2048x2048, .f32⟩
  | .hbm, ⟨2, _⟩ => ⟨S2x256x1, .f32⟩
  | .hbm, ⟨3, _⟩ => ⟨S1, .f32⟩
  | .hbm, ⟨4, _⟩ => ⟨S_, .f32⟩
  | .hbm, ⟨5, _⟩ => ⟨S2048x2048, .f32⟩
  | .hbm, ⟨6, _⟩ => ⟨S2048x2048, .i1⟩
  | .hbm, ⟨7, _⟩ => ⟨S_, .f32⟩
  | .hbm, ⟨8, _⟩ => ⟨S2048x2048, .f32⟩
  | .hbm, ⟨9, _⟩ => ⟨S2048x2048, .i1⟩
  | .hbm, ⟨10, _⟩ => ⟨S2048x2048, .i1⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .i1⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S1x256x1, .f32⟩
  | .hbm, ⟨33, _⟩ => ⟨S256x1, .f32⟩
  | .hbm, ⟨34, _⟩ => ⟨S8x2048x1, .f32⟩
  | .hbm, ⟨35, _⟩ => ⟨S8x256x2048, .f32⟩
  | .hbm, ⟨36, _⟩ => ⟨S8x2048x256, .f32⟩
  | .hbm, ⟨37, _⟩ => ⟨S1x256x1, .f32⟩
  | .hbm, ⟨38, _⟩ => ⟨S256x1, .f32⟩
  | .hbm, ⟨39, _⟩ => ⟨S8x2048x1, .f32⟩
  | .hbm, ⟨40, _⟩ => ⟨S8x2048x1, .f32⟩
  | .hbm, ⟨41, _⟩ => ⟨S1x1x1, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x257, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.ValueIdxCore
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole buffer holding `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The five scratch buffers: the features, the degrees, the two terms, the gate. -/
abbrev sx : Memref sig .tc .vmem S8x2048x256 .f32 := Memref.whole cc0_scratch0
abbrev sdeg : Memref sig .tc .vmem S1x2048 .f32 := Memref.whole cc0_scratch1
abbrev su : Memref sig .tc .vmem S8x2048 .f32 := Memref.whole cc0_scratch2
abbrev st : Memref sig .tc .vmem S8x2048 .f32 := Memref.whole cc0_scratch3
abbrev sg : Memref sig .tc .vmem S8x2048 .f32 := Memref.whole cc0_scratch4

/-! The kernel's comparisons of the grid point, as comparisons of numbers. -/
theorem slt_four : ∀ s < 12, Scalar.cmpi .ne (Scalar.extui (Scalar.cmpi .slt (BitVec.ofNat 32 s) 4#32) : BitVec 32) 0#32 = 1#1 ↔ s < 4 := by decide
theorem eq_zero : ∀ s < 12, Scalar.cmpi .ne (Scalar.extui (Scalar.cmpi .eq (BitVec.ofNat 32 s) 0#32) : BitVec 32) 0#32 = 1#1 ↔ s = 0 := by decide
theorem sgt_zero : ∀ s < 12, Scalar.cmpi .ne (Scalar.extui (Scalar.cmpi .sgt (BitVec.ofNat 32 s) 0#32) : BitVec 32) 0#32 = 1#1 ↔ 0 < s := by decide
theorem eq_four : ∀ s < 12, Scalar.cmpi .ne (Scalar.extui (Scalar.cmpi .eq (BitVec.ofNat 32 s) 4#32) : BitVec 32) 0#32 = 1#1 ↔ s = 4 := by decide
theorem sge_four : ∀ s < 12, Scalar.cmpi .ne (Scalar.extui (Scalar.cmpi .sge (BitVec.ofNat 32 s) 4#32) : BitVec 32) 0#32 = 1#1 ↔ 4 ≤ s := by decide

/-- Where the last points read the features of their batch entry. -/
theorem off3_eq : ∀ i : grid0.Coords, 4 ≤ (i 0).val → k0_off3 i = ![(i 0).val - 4, 0, 0] := by decide +kernel
/-- Where the last points read the gate of their batch entry. -/
theorem off4_eq : ∀ i : grid0.Coords, 4 ≤ (i 0).val → k0_off4 i = ![(i 0).val - 4, 0] := by decide +kernel

/-- What the result holds of one batch entry at row `n` and column `k`: a feature, or in the last column the gate. -/
def outAt (s : ℕ) (hs : s - 4 < 8) (X : S8x2048x256.Idx → Elt F .f32) (G : S8x2048.Idx → Elt F .f32) (n : Fin 2048) (k : Fin 257) : Elt F .f32 :=
  if h : k.val < 256 then X (ix3 ⟨s - 4, hs⟩ n ⟨k.val, h⟩) else G (ix2 ⟨s - 4, hs⟩ n)
/-- One batch entry of the result. -/
def outBlock (s : ℕ) (hs : s - 4 < 8) (X : S8x2048x256.Idx → Elt F .f32) (G : S8x2048.Idx → Elt F .f32) : S1x2048x257.Idx → Elt F .f32 :=
  fun j => outAt s hs X G (j 1) (j 2)

/-- Dropping and putting back a leading axis of length one changes nothing. -/
theorem pay6_eq (v : S1x2048x256.Idx → Elt F .f32) : k0_pay6 v = v := by
  unfold k0_pay6; exact shapeCast_shapeCast v _ _

/-- A row of gates stood up as a column. -/
theorem pay7_apply (v : S1x2048.Idx → Elt F .f32) (n : Fin 2048) : k0_pay7 v (ix3 0 n 0) = v (ix2 0 n) := by
  unfold k0_pay7; simp only [pointwise]

/-- The two stores of a last point, over any contents, leave its batch entry. -/
theorem read_out (v : View sig .tc .vmem S1x2048x257 .f32) (g : v.ty.Contents (Elt F)) (s : ℕ) (hs : s - 4 < 8) (X : S8x2048x256.Idx → Elt F .f32)
    (G : S8x2048.Idx → Elt F .f32) (ix : ∀ a, (![s - 4, 0, 0] : Fin 3 → ℕ) a + S1x2048x256.size a ≤ S8x2048x256.size a)
    (ig : ∀ a, (![s - 4, 0] : Fin 2 → ℕ) a + S1x2048.size a ≤ S8x2048.size a) :
    v.read (Elt F) (v.writes (Elt F) g
      [⟨Rect.unit ![0, 0, 256] S1x2048x1.size inb_S1x2048x257_S1x2048x1_0_0_256, k0_pay7 (VecWindow.window G ![s - 4, 0] S1x2048.size ig)⟩,
        ⟨Rect.unit ![0, 0, 0] S1x2048x256.size inb_S1x2048x257_S1x2048x256_0_0_0, k0_pay6 (VecWindow.window X ![s - 4, 0, 0] S1x2048x256.size ix)⟩])
      = outBlock s hs X G := by
  funext j
  obtain ⟨n, k, rfl⟩ : ∃ (n : Fin 2048) (k : Fin 257), j = ix3 0 n k := ⟨j 1, j 2, by
    funext a; fin_cases a
    · exact Fin.ext (by have := (j 0).isLt; simp at this; exact this)
    · rfl
    · rfl⟩
  show _ = outAt s hs X G n k
  unfold outAt
  split
  · rename_i h
    refine (View.read_writes_cons_unit_of_not_mem (off' := ![0, 0, 256]) v g _ _ _ (ix3 0 n k) rfl 2 (.inl h)).trans ?_
    refine (View.read_writes_cons_unit_of_mem (off' := ![0, 0, 0]) v g _ _ _ (ix3 0 n k) (ix3 (n2 := 256) 0 n ⟨k.val, h⟩) rfl (by
        intro a; fin_cases a <;> simp)).trans ?_
    rw [pay6_eq]
    unfold VecWindow.window
    congr 1; funext a; fin_cases a <;> exact Fin.ext (by show _ + 1 * _ = _; simp)
  · rename_i h
    have h2 : k.val = 256 := by have := k.isLt; omega
    refine (View.read_writes_cons_unit_of_mem (off' := ![0, 0, 256]) v g _ _ _ (ix3 0 n k) (ix3 (n2 := 1) 0 n 0) rfl (by
        intro a; fin_cases a <;> simp [h2])).trans ?_
    rw [pay7_apply]
    unfold VecWindow.window
    congr 1; funext a; fin_cases a <;> exact Fin.ext (by show _ + 1 * _ = _; simp)

/-- The first point: the block of features and its part of the first term are stored, and the two sums start. -/
theorem run_first (c : Dev nD) (i : grid0.Coords) (lo : 0 ≤ (i 0).val) (hi : (i 0).val < 1)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g1 : Buf (Elt F) (a1.view.loc (c : Thread nD τ)))
    (g2 : Buf (Elt F) (a2.view.loc (c : Thread nD τ)))
    (g3 : Buf (Elt F) (a3.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (W : Waits sig Unit) (K : PUnit → sProp 𝕄) :
    iprop(pt c a1 g1 ∗ pt c a2 g2 ∗ pt c a3 g3 ∗ pt c sx f0 ∗ pt c sdeg f1 ∗ pt c su f2 ∗ pt c st f3 ∗ owes (c : Thread nD τ) 0 W
      ∗ (iprop(pt c a1 g1 ∗ pt c a2 g2 ∗ pt c a3 g3 ∗ (∃ f, ⌜sx.view.read (Elt F) f = VecWindow.put (sx.view.read (Elt F) f0) ![0, 512 * (i 0).val, 0] S8x512x256.size (k0_pay10 (a2.view.read (Elt F) g2))⌝ ∗ pt c sx f) ∗ (∃ f, ⌜sdeg.view.read (Elt F) f = k0_pay1 (k0_pay9 (a1.view.read (Elt F) g1))⌝ ∗ pt c sdeg f) ∗ (∃ f, ⌜su.view.read (Elt F) f = VecWindow.put (su.view.read (Elt F) f2) ![0, 512 * (i 0).val] S8x512.size (k0_pay12 (a2.view.read (Elt F) g2) (a3.view.read (Elt F) g3))⌝ ∗ pt c su f) ∗ (∃ f, ⌜st.view.read (Elt F) f = k0_pay2 (k0_pay13 (a1.view.read (Elt F) g1) (a2.view.read (Elt F) g2) (a3.view.read (Elt F) g3))⌝ ∗ pt c st f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  have hc1 : k0_cond1 i = 1#1 := (slt_four _ (by omega)).mpr (by omega)
  have hc2 : (Scalar.cmpi .ne (Scalar.extui (Scalar.cmpi .eq (BitVec.ofNat 32 (i 0).val) 0#32) : BitVec 32) 0#32 = 1#1) := (eq_zero _ (by omega)).mpr (by omega)
  have hc3 : ¬ (Scalar.cmpi .ne (Scalar.extui (Scalar.cmpi .sgt (BitVec.ofNat 32 (i 0).val) 0#32) : BitVec 32) 0#32 = 1#1) := fun h => absurd ((sgt_zero _ (by omega)).mp h) (by omega)
  have hc4 : ¬ (Scalar.cmpi .ne (Scalar.extui (Scalar.cmpi .eq (BitVec.ofNat 32 (i 0).val) 4#32) : BitVec 32) 0#32 = 1#1) := fun h => absurd ((eq_four _ (by omega)).mp h) (by omega)
  have hc5 : ¬ k0_cond5 i = 1#1 := fun h => absurd ((sge_four _ (by omega)).mp h) (by omega)
  simp only [cc0__fused_kernel_eq_skeleton, k0_part1_eq_skeleton]; unfold cc0__fused_kernel_skel
  iintro ⟨H1, H2, H3, S0, S1, S2, S3, HO, Hk⟩
  sl_exec (disch := first | exact hc1 | exact hc2 | exact hc3 | exact hc4 | exact hc5)
  sl_step
  iapply Hk
  isplitl [H1]; · iexact H1
  isplitl [H2]; · iexact H2
  isplitl [H3]; · iexact H3
  isplitl [S0]
  · iexists _; isplitr; swap; · iexact S0
    ipureintro; rw [View.read_writes_cons_put _ _ _ _ _ (k0_off1_eq i), View.readAt_full]; rfl
  isplitl [S1]
  · iexists _; isplitr; swap; · iexact S1
    ipureintro; rw [View.read_writes_full]; unfold run_first.sl.r; (repeat rw [View.readAt_full])
  isplitl [S2]
  · iexists _; isplitr; swap; · iexact S2
    ipureintro; rw [View.read_writes_cons_put _ _ _ _ _ (k0_off2_eq i), View.readAt_full, View.readAt_full]; rfl
  isplitl [S3]
  · iexists _; isplitr; swap; · iexact S3
    ipureintro; rw [View.read_writes_full]; unfold run_first.sl.r_1; (repeat rw [View.readAt_full])
  iexists _; iexact HO

/-- The next three points: the block of features and its part of the first term are stored, and the two sums grow. -/
theorem run_next (c : Dev nD) (i : grid0.Coords) (lo : 1 ≤ (i 0).val) (hi : (i 0).val < 4)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g1 : Buf (Elt F) (a1.view.loc (c : Thread nD τ)))
    (g2 : Buf (Elt F) (a2.view.loc (c : Thread nD τ)))
    (g3 : Buf (Elt F) (a3.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (W : Waits sig Unit) (K : PUnit → sProp 𝕄) :
    iprop(pt c a1 g1 ∗ pt c a2 g2 ∗ pt c a3 g3 ∗ pt c sx f0 ∗ pt c sdeg f1 ∗ pt c su f2 ∗ pt c st f3 ∗ owes (c : Thread nD τ) 0 W
      ∗ (iprop(pt c a1 g1 ∗ pt c a2 g2 ∗ pt c a3 g3 ∗ (∃ f, ⌜sx.view.read (Elt F) f = VecWindow.put (sx.view.read (Elt F) f0) ![0, 512 * (i 0).val, 0] S8x512x256.size (k0_pay10 (a2.view.read (Elt F) g2))⌝ ∗ pt c sx f) ∗ (∃ f, ⌜sdeg.view.read (Elt F) f = k0_pay3 (k0_pay9 (a1.view.read (Elt F) g1)) (sdeg.view.read (Elt F) f1)⌝ ∗ pt c sdeg f) ∗ (∃ f, ⌜su.view.read (Elt F) f = VecWindow.put (su.view.read (Elt F) f2) ![0, 512 * (i 0).val] S8x512.size (k0_pay12 (a2.view.read (Elt F) g2) (a3.view.read (Elt F) g3))⌝ ∗ pt c su f) ∗ (∃ f, ⌜st.view.read (Elt F) f = k0_pay4 (k0_pay13 (a1.view.read (Elt F) g1) (a2.view.read (Elt F) g2) (a3.view.read (Elt F) g3)) (st.view.read (Elt F) f3)⌝ ∗ pt c st f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  have hc1 : k0_cond1 i = 1#1 := (slt_four _ (by omega)).mpr (by omega)
  have hc2 : ¬ (Scalar.cmpi .ne (Scalar.extui (Scalar.cmpi .eq (BitVec.ofNat 32 (i 0).val) 0#32) : BitVec 32) 0#32 = 1#1) := fun h => absurd ((eq_zero _ (by omega)).mp h) (by omega)
  have hc3 : (Scalar.cmpi .ne (Scalar.extui (Scalar.cmpi .sgt (BitVec.ofNat 32 (i 0).val) 0#32) : BitVec 32) 0#32 = 1#1) := (sgt_zero _ (by omega)).mpr (by omega)
  have hc4 : ¬ (Scalar.cmpi .ne (Scalar.extui (Scalar.cmpi .eq (BitVec.ofNat 32 (i 0).val) 4#32) : BitVec 32) 0#32 = 1#1) := fun h => absurd ((eq_four _ (by omega)).mp h) (by omega)
  have hc5 : ¬ k0_cond5 i = 1#1 := fun h => absurd ((sge_four _ (by omega)).mp h) (by omega)
  simp only [cc0__fused_kernel_eq_skeleton, k0_part1_eq_skeleton]; unfold cc0__fused_kernel_skel
  iintro ⟨H1, H2, H3, S0, S1, S2, S3, HO, Hk⟩
  sl_exec (disch := first | exact hc1 | exact hc2 | exact hc3 | exact hc4 | exact hc5)
  sl_step
  iapply Hk
  isplitl [H1]; · iexact H1
  isplitl [H2]; · iexact H2
  isplitl [H3]; · iexact H3
  isplitl [S0]
  · iexists _; isplitr; swap; · iexact S0
    ipureintro; rw [View.read_writes_cons_put _ _ _ _ _ (k0_off1_eq i), View.readAt_full]; rfl
  isplitl [S1]
  · iexists _; isplitr; swap; · iexact S1
    ipureintro; rw [View.read_writes_full]; unfold run_next.sl.r; (repeat rw [View.readAt_full])
  isplitl [S2]
  · iexists _; isplitr; swap; · iexact S2
    ipureintro; rw [View.read_writes_cons_put _ _ _ _ _ (k0_off2_eq i), View.readAt_full, View.readAt_full]; rfl
  isplitl [S3]
  · iexists _; isplitr; swap; · iexact S3
    ipureintro; rw [View.read_writes_full]; unfold run_next.sl.r_1; (repeat rw [View.readAt_full])
  iexists _; iexact HO

/-- The fifth point: the gate is computed from the finished sums, and the first batch entry is put out. -/
theorem run_gate (c : Dev nD) (i : grid0.Coords) (lo : 4 ≤ (i 0).val) (hi : (i 0).val < 5)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g4 : Buf (Elt F) (a4.view.loc (c : Thread nD τ)))
    (g5 : Buf (Elt F) (a5.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (f4 : Buf (Elt F) (sg.view.loc (c : Thread nD τ)))
    (W : Waits sig Unit) (K : PUnit → sProp 𝕄) :
    iprop(pt c a4 g4 ∗ pt c a5 g5 ∗ pt c sx f0 ∗ pt c sdeg f1 ∗ pt c su f2 ∗ pt c st f3 ∗ pt c sg f4 ∗ owes (c : Thread nD τ) 0 W
      ∗ (iprop(pt c a4 g4 ∗ (∃ f, ⌜a5.view.read (Elt F) f = outBlock (i 0).val (hs := by omega) (sx.view.read (Elt F) f0) (k0_pay5 (sdeg.view.read (Elt F) f1) (su.view.read (Elt F) f2) (st.view.read (Elt F) f3) (a4.view.read (Elt F) g4))⌝ ∗ pt c a5 f) ∗ pt c sx f0 ∗ pt c sdeg f1 ∗ pt c su f2 ∗ pt c st f3 ∗ (∃ f, ⌜sg.view.read (Elt F) f = k0_pay5 (sdeg.view.read (Elt F) f1) (su.view.read (Elt F) f2) (st.view.read (Elt F) f3) (a4.view.read (Elt F) g4)⌝ ∗ pt c sg f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  have hc1 : ¬ k0_cond1 i = 1#1 := fun h => absurd ((slt_four _ (by omega)).mp h) (by omega)
  have hc4 : (Scalar.cmpi .ne (Scalar.extui (Scalar.cmpi .eq (BitVec.ofNat 32 (i 0).val) 4#32) : BitVec 32) 0#32 = 1#1) := (eq_four _ (by omega)).mpr (by omega)
  have hc5 : k0_cond5 i = 1#1 := (sge_four _ (by omega)).mpr (by omega)
  letI : ClosedOff (k0_off3 i) := ⟨![(i 0).val - 4, 0, 0], off3_eq i (by omega)⟩
  letI : ClosedOff (k0_off4 i) := ⟨![(i 0).val - 4, 0], off4_eq i (by omega)⟩
  simp only [cc0__fused_kernel_eq_skeleton, k0_part1_eq_skeleton]; unfold cc0__fused_kernel_skel
  iintro ⟨H4, H5, S0, S1, S2, S3, S4, HO, Hk⟩
  sl_exec (disch := first | exact hc1 | exact hc2 | exact hc3 | exact hc4 | exact hc5)
  sl_step
  iapply Hk
  isplitl [H4]; · iexact H4
  isplitl [H5]
  · iexists _; isplitr; swap; · iexact H5
    ipureintro; unfold run_gate.sl.S4_1; rw [View.readAt_unit sg.view _ _ (off4_eq i (by omega)) (off4_eq i (by omega) ▸ k0_off4_inb i hc5), View.readAt_unit sx.view _ _ (off3_eq i (by omega)) (off3_eq i (by omega) ▸ k0_off3_inb i hc5), View.read_writes_full]; (repeat rw [View.readAt_full]); exact read_out _ _ _ _ _ _ _ _
  isplitl [S0]; · iexact S0
  isplitl [S1]; · iexact S1
  isplitl [S2]; · iexact S2
  isplitl [S3]; · iexact S3
  isplitl [S4]
  · iexists _; isplitr; swap; · iexact S4
    ipureintro; unfold run_gate.sl.S4_1; rw [View.read_writes_full]; (repeat rw [View.readAt_full])
  iexists _; iexact HO

/-- The last points: one batch entry each is put out. -/
theorem run_out (c : Dev nD) (i : grid0.Coords) (lo : 5 ≤ (i 0).val) (hi : (i 0).val < 12)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g4 : Buf (Elt F) (a4.view.loc (c : Thread nD τ)))
    (g5 : Buf (Elt F) (a5.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (f4 : Buf (Elt F) (sg.view.loc (c : Thread nD τ)))
    (W : Waits sig Unit) (K : PUnit → sProp 𝕄) :
    iprop(pt c a4 g4 ∗ pt c a5 g5 ∗ pt c sx f0 ∗ pt c sdeg f1 ∗ pt c su f2 ∗ pt c st f3 ∗ pt c sg f4 ∗ owes (c : Thread nD τ) 0 W
      ∗ (iprop(pt c a4 g4 ∗ (∃ f, ⌜a5.view.read (Elt F) f = outBlock (i 0).val (hs := by omega) (sx.view.read (Elt F) f0) (sg.view.read (Elt F) f4)⌝ ∗ pt c a5 f) ∗ pt c sx f0 ∗ pt c sdeg f1 ∗ pt c su f2 ∗ pt c st f3 ∗ (∃ f, ⌜sg.view.read (Elt F) f = sg.view.read (Elt F) f4⌝ ∗ pt c sg f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  have hc1 : ¬ k0_cond1 i = 1#1 := fun h => absurd ((slt_four _ (by omega)).mp h) (by omega)
  have hc4 : ¬ (Scalar.cmpi .ne (Scalar.extui (Scalar.cmpi .eq (BitVec.ofNat 32 (i 0).val) 4#32) : BitVec 32) 0#32 = 1#1) := fun h => absurd ((eq_four _ (by omega)).mp h) (by omega)
  have hc5 : k0_cond5 i = 1#1 := (sge_four _ (by omega)).mpr (by omega)
  letI : ClosedOff (k0_off3 i) := ⟨![(i 0).val - 4, 0, 0], off3_eq i (by omega)⟩
  letI : ClosedOff (k0_off4 i) := ⟨![(i 0).val - 4, 0], off4_eq i (by omega)⟩
  simp only [cc0__fused_kernel_eq_skeleton, k0_part1_eq_skeleton]; unfold cc0__fused_kernel_skel
  iintro ⟨H4, H5, S0, S1, S2, S3, S4, HO, Hk⟩
  sl_exec (disch := first | exact hc1 | exact hc2 | exact hc3 | exact hc4 | exact hc5)
  sl_step
  iapply Hk
  isplitl [H4]; · iexact H4
  isplitl [H5]
  · iexists _; isplitr; swap; · iexact H5
    ipureintro; rw [View.readAt_unit sg.view _ _ (off4_eq i (by omega)) (off4_eq i (by omega) ▸ k0_off4_inb i hc5), View.readAt_unit sx.view _ _ (off3_eq i (by omega)) (off3_eq i (by omega) ▸ k0_off3_inb i hc5)]; (repeat rw [View.readAt_full]); exact read_out _ _ _ _ _ _ _ _
  isplitl [S0]; · iexact S0
  isplitl [S1]; · iexact S1
  isplitl [S2]; · iexact S2
  isplitl [S3]; · iexact S3
  isplitl [S4]
  · iexists _; isplitr; swap; · iexact S4
    ipureintro; rfl
  iexists _; iexact HO

/-- A point of the first four, whichever it is. -/
theorem run_load (c : Dev nD) (i : grid0.Coords) (hi : (i 0).val < 4)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g1 : Buf (Elt F) (a1.view.loc (c : Thread nD τ)))
    (g2 : Buf (Elt F) (a2.view.loc (c : Thread nD τ)))
    (g3 : Buf (Elt F) (a3.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (W : Waits sig Unit) (K : PUnit → sProp 𝕄) :
    iprop(pt c a1 g1 ∗ pt c a2 g2 ∗ pt c a3 g3 ∗ pt c sx f0 ∗ pt c sdeg f1 ∗ pt c su f2 ∗ pt c st f3 ∗ owes (c : Thread nD τ) 0 W
      ∗ (iprop(pt c a1 g1 ∗ pt c a2 g2 ∗ pt c a3 g3 ∗ (∃ f, ⌜sx.view.read (Elt F) f = VecWindow.put (sx.view.read (Elt F) f0) ![0, 512 * (i 0).val, 0] S8x512x256.size (k0_pay10 (a2.view.read (Elt F) g2))⌝ ∗ pt c sx f) ∗ (∃ f, ⌜sdeg.view.read (Elt F) f = if (i 0).val = 0 then k0_pay1 (k0_pay9 (a1.view.read (Elt F) g1)) else k0_pay3 (k0_pay9 (a1.view.read (Elt F) g1)) (sdeg.view.read (Elt F) f1)⌝ ∗ pt c sdeg f) ∗ (∃ f, ⌜su.view.read (Elt F) f = VecWindow.put (su.view.read (Elt F) f2) ![0, 512 * (i 0).val] S8x512.size (k0_pay12 (a2.view.read (Elt F) g2) (a3.view.read (Elt F) g3))⌝ ∗ pt c su f) ∗ (∃ f, ⌜st.view.read (Elt F) f = if (i 0).val = 0 then k0_pay2 (k0_pay13 (a1.view.read (Elt F) g1) (a2.view.read (Elt F) g2) (a3.view.read (Elt F) g3)) else k0_pay4 (k0_pay13 (a1.view.read (Elt F) g1) (a2.view.read (Elt F) g2) (a3.view.read (Elt F) g3)) (st.view.read (Elt F) f3)⌝ ∗ pt c st f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  by_cases h : (i 0).val = 0
  · simp only [if_pos h]; exact run_first c i (by omega) (by omega) a1 h1 a2 h2 a3 h3 a4 h4 a5 h5 g1 g2 g3 f0 f1 f2 f3 W K
  · simp only [if_neg h]; exact run_next c i (by omega) hi a1 h1 a2 h2 a3 h3 a4 h4 a5 h5 g1 g2 g3 f0 f1 f2 f3 W K

/-- A point of the last eight, whichever it is. -/
theorem run_last (c : Dev nD) (i : grid0.Coords) (lo : 4 ≤ (i 0).val) (hi : (i 0).val < 12)
    (a1 : Memref sig .tc .vmem S512x2048 .f32) (h1 : a1.IsWhole) (a2 : Memref sig .tc .vmem S8x512x256 .f32) (h2 : a2.IsWhole)
    (a3 : Memref sig .tc .vmem S2x256 .f32) (h3 : a3.IsWhole) (a4 : Memref sig .tc .vmem S1x1 .f32) (h4 : a4.IsWhole)
    (a5 : Memref sig .tc .vmem S1x2048x257 .f32) (h5 : a5.IsWhole)
    (g4 : Buf (Elt F) (a4.view.loc (c : Thread nD τ)))
    (g5 : Buf (Elt F) (a5.view.loc (c : Thread nD τ)))
    (f0 : Buf (Elt F) (sx.view.loc (c : Thread nD τ)))
    (f1 : Buf (Elt F) (sdeg.view.loc (c : Thread nD τ)))
    (f2 : Buf (Elt F) (su.view.loc (c : Thread nD τ)))
    (f3 : Buf (Elt F) (st.view.loc (c : Thread nD τ)))
    (f4 : Buf (Elt F) (sg.view.loc (c : Thread nD τ)))
    (W : Waits sig Unit) (K : PUnit → sProp 𝕄) :
    iprop(pt c a4 g4 ∗ pt c a5 g5 ∗ pt c sx f0 ∗ pt c sdeg f1 ∗ pt c su f2 ∗ pt c st f3 ∗ pt c sg f4 ∗ owes (c : Thread nD τ) 0 W
      ∗ (iprop(pt c a4 g4 ∗ (∃ f, ⌜a5.view.read (Elt F) f = outBlock (i 0).val (hs := by omega) (sx.view.read (Elt F) f0) (if (i 0).val = 4 then k0_pay5 (sdeg.view.read (Elt F) f1) (su.view.read (Elt F) f2) (st.view.read (Elt F) f3) (a4.view.read (Elt F) g4) else sg.view.read (Elt F) f4)⌝ ∗ pt c a5 f) ∗ pt c sx f0 ∗ pt c sdeg f1 ∗ pt c su f2 ∗ pt c st f3 ∗ (∃ f, ⌜sg.view.read (Elt F) f = (if (i 0).val = 4 then k0_pay5 (sdeg.view.read (Elt F) f1) (su.view.read (Elt F) f2) (st.view.read (Elt F) f3) (a4.view.read (Elt F) g4) else sg.view.read (Elt F) f4)⌝ ∗ pt c sg f) ∗ ∃ W', owes (c : Thread nD τ) 0 W') -∗ K ⟨⟩))
    ⊢ wp frame (wpE (defs₀ (F := F)) Variants.none c none) Set.univ
      (cc0__fused_kernel i a1 h1 a2 h2 a3 h3 a4 h4 a5 h5 sx (Memref.isWhole_whole _) sdeg (Memref.isWhole_whole _) su (Memref.isWhole_whole _)
        st (Memref.isWhole_whole _) sg (Memref.isWhole_whole _)) K := by
  by_cases h : (i 0).val = 4
  · simp only [if_pos h]; exact run_gate c i lo (by omega) a1 h1 a2 h2 a3 h3 a4 h4 a5 h5 g4 g5 f0 f1 f2 f3 f4 W K
  · simp only [if_neg h]; exact run_out c i (by omega) hi a1 h1 a2 h2 a3 h3 a4 h4 a5 h5 g4 g5 f0 f1 f2 f3 f4 W K

end Cert.KernelIdeal.Hand

end
-- ==== Proof.Run.lean ====
module

public import proofs.«01_k».proof.Proof.Body
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the kernel has computed before a point -/

/-- The point of number `k`. -/
def pN (k : ℕ) : Fin cfg0.N := ⟨k % 12, by show k % 12 < grid0.N; rw [N_0]; omega⟩
theorem pN_val (t : Fin cfg0.N) : pN t.val = t := Fin.ext (Nat.mod_eq_of_lt (by have h : t.val < grid0.N := t.isLt; rw [N_0] at h; exact h))

/-- The block of distances, the block of features, the weights and the bias a point is handed. -/
abbrev dBlk (c : Dev nD) (k : ℕ) : S512x2048.Idx → Elt F .f32 := iblk m c 0 (pN k)
abbrev xBlk (c : Dev nD) (k : ℕ) : S8x512x256.Idx → Elt F .f32 := iblk m c 1 (pN k)
abbrev wBlk (c : Dev nD) (k : ℕ) : S2x256.Idx → Elt F .f32 := iblk m c 2 (pN k)
abbrev bBlk (c : Dev nD) (k : ℕ) : S1x1.Idx → Elt F .f32 := iblk m c 3 (pN k)

/-- The column sums of the weights of the edges, after point `k`. -/
def degAt (c : Dev nD) : ℕ → (S1x2048.Idx → Elt F .f32)
  | 0 => k0_pay1 (k0_pay9 (dBlk m c 0))
  | k + 1 => k0_pay3 (k0_pay9 (dBlk m c (k + 1))) (degAt c k)
/-- The sums of the second term, after point `k`. -/
def sumAt (c : Dev nD) : ℕ → (S8x2048.Idx → Elt F .f32)
  | 0 => k0_pay2 (k0_pay13 (dBlk m c 0) (xBlk m c 0) (wBlk m c 0))
  | k + 1 => k0_pay4 (k0_pay13 (dBlk m c (k + 1)) (xBlk m c (k + 1)) (wBlk m c (k + 1))) (sumAt c k)
/-- The features, gathered from the blocks of the first four points. -/
def xAll (c : Dev nD) : S8x2048x256.Idx → Elt F .f32 := fun j =>
  k0_pay10 (xBlk m c ((j 1).val / 512)) (ix3 (n1 := 512) (j 0) ⟨(j 1).val % 512, Nat.mod_lt _ (by decide)⟩ (j 2))
/-- The first term, gathered from the blocks of the first four points. -/
def uAll (c : Dev nD) : S8x2048.Idx → Elt F .f32 := fun j =>
  k0_pay12 (xBlk m c ((j 1).val / 512)) (wBlk m c ((j 1).val / 512)) (ix2 (n1 := 512) (j 0) ⟨(j 1).val % 512, Nat.mod_lt _ (by decide)⟩)
/-- The gate of every batch entry and node. -/
def gate (c : Dev nD) : S8x2048.Idx → Elt F .f32 := k0_pay5 (degAt m c 3) (uAll m c) (sumAt m c 3) (bBlk m c 4)

/-- What the five scratch buffers hold before point `n`. -/
structure Inv (c : Dev nD) (n : ℕ) (x : S8x2048x256.Idx → Elt F .f32) (d : S1x2048.Idx → Elt F .f32) (u t g : S8x2048.Idx → Elt F .f32) : Prop where
  feat : ∀ j, (j 1).val < 512 * n → x j = xAll m c j
  first : ∀ j, (j 1).val < 512 * n → u j = uAll m c j
  deg : 1 ≤ n → d = degAt m c (min n 4 - 1)
  sum : 1 ≤ n → t = sumAt m c (min n 4 - 1)
  gate : 5 ≤ n → g = gate m c

/-- Before the first point the scratch holds anything. -/
theorem Inv.zero (c : Dev nD) (x d u t g) : Inv m c 0 x d u t g :=
  ⟨fun _ h => by omega, fun _ h => by omega, fun h => by omega, fun h => by omega, fun h => by omega⟩

/-- A block of rows put at its place is the gathered array there, and elsewhere what was there before. -/
theorem Inv.load {c : Dev nD} {n : ℕ} (hn : n < 4) {x d u t g} (h : Inv m c n x d u t g) :
    Inv m c (n + 1) (VecWindow.put x ![0, 512 * n, 0] S8x512x256.size (k0_pay10 (xBlk m c n)))
      (if n = 0 then k0_pay1 (k0_pay9 (dBlk m c n)) else k0_pay3 (k0_pay9 (dBlk m c n)) d)
      (VecWindow.put u ![0, 512 * n] S8x512.size (k0_pay12 (xBlk m c n) (wBlk m c n)))
      (if n = 0 then k0_pay2 (k0_pay13 (dBlk m c n) (xBlk m c n) (wBlk m c n)) else k0_pay4 (k0_pay13 (dBlk m c n) (xBlk m c n) (wBlk m c n)) t) g where
  feat j hj := by
    unfold VecWindow.put
    split
    · rename_i hw
      have h1 := hw 1
      simp at h1
      have hq : (j 1).val / 512 = n := by omega
      unfold xAll
      rw [hq]
      congr 1
      funext a
      fin_cases a <;> refine Fin.ext ?_ <;> simp [Rect.unitLocal_val]
      omega
    · rename_i hw
      refine h.feat j ?_
      by_contra hlt
      refine hw fun a => ?_
      have := (j a).isLt
      fin_cases a <;> simp at this ⊢ <;> first | omega | exact this
  first j hj := by
    unfold VecWindow.put
    split
    · rename_i hw
      have h1 := hw 1
      simp at h1
      have hq : (j 1).val / 512 = n := by omega
      unfold uAll
      rw [hq]
      congr 1
      funext a
      fin_cases a <;> refine Fin.ext ?_ <;> simp [Rect.unitLocal_val]
      omega
    · rename_i hw
      refine h.first j ?_
      by_contra hlt
      refine hw fun a => ?_
      have := (j a).isLt
      fin_cases a <;> simp at this ⊢ <;> first | omega | exact this
  deg _ := by
    rw [show min (n + 1) 4 - 1 = n by omega]
    rcases n with _ | n
    · rfl
    · rw [if_neg (by omega), h.deg (by omega), show min (n + 1) 4 - 1 = n by omega]; rfl
  sum _ := by
    rw [show min (n + 1) 4 - 1 = n by omega]
    rcases n with _ | n
    · rfl
    · rw [if_neg (by omega), h.sum (by omega), show min (n + 1) 4 - 1 = n by omega]; rfl
  gate h5 := by omega

/-- From the fourth point on the features are all there, -/
theorem Inv.x_eq {c : Dev nD} {n : ℕ} (hn : 4 ≤ n) {x d u t g} (h : Inv m c n x d u t g) : x = xAll m c :=
  funext fun j => h.feat j (by have : (j 1).val < 2048 := (j 1).isLt; omega)
/-- and so is the first term. -/
theorem Inv.u_eq {c : Dev nD} {n : ℕ} (hn : 4 ≤ n) {x d u t g} (h : Inv m c n x d u t g) : u = uAll m c :=
  funext fun j => h.first j (by have : (j 1).val < 2048 := (j 1).isLt; omega)

/-- At a point of the last eight the gate is in place once the point is done. -/
theorem Inv.gate_eq {c : Dev nD} {n : ℕ} (hn : 4 ≤ n) {x d u t g} (h : Inv m c n x d u t g) :
    (if n = 4 then k0_pay5 d u t (bBlk m c n) else g) = Hand.gate m c := by
  split
  · rename_i h4
    subst h4
    rw [h.u_eq m (by omega), h.deg (by omega), h.sum (by omega)]; rfl
  · exact h.gate (by omega)

/-- Between two write-outs nothing of the scratch moves. -/
theorem Inv.last {c : Dev nD} {n : ℕ} (hn : 4 ≤ n) {x d u t g g'} (h : Inv m c n x d u t g) (hg : g' = Hand.gate m c) : Inv m c (n + 1) x d u t g' where
  feat j _ := by rw [h.x_eq m hn]
  first j _ := by rw [h.u_eq m hn]
  deg _ := by rw [h.deg (by omega), show min n 4 = 4 by omega, show min (n + 1) 4 = 4 by omega]
  sum _ := by rw [h.sum (by omega), show min n 4 = 4 by omega, show min (n + 1) 4 = 4 by omega]
  gate _ := hg

/-! ## The proof data -/

/-- The scratch buffers and the generator's register between two points. -/
def Φc (c : Dev nD) (n : ℕ) : sProp 𝕄 :=
  iprop(∃ f0 f1 f2 f3 f4, ⌜Inv m c n (sx.view.read (Elt F) f0) (sdeg.view.read (Elt F) f1) (su.view.read (Elt F) f2) (st.view.read (Elt F) f3) (sg.view.read (Elt F) f4)⌝
    ∗ pt c sx f0 ∗ pt c sdeg f1 ∗ pt c su f2 ∗ pt c st f3 ∗ pt c sg f4 ∗ ∃ r, prngReg c r)

/-- The batch entry put out at point `k`. -/
def outOf (c : Dev nD) (k : ℕ) : S1x2048x257.Idx → Elt F .f32 := outBlock (k % 12) (by omega) (xAll m c) (gate m c)

/-- The proof data: the inputs' blocks stay, the output's block is the batch entry. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outOf m c t.val
    | ⟨_ + 5, h⟩ => absurd h (Nat.not_lt.2 (Nat.le_add_left _ _))
  Φ t := Φc m c t.val
  q _ := fullShare
  owed _ := 0

/-- The proof data's arrays are those the region finds. -/
theorem A_eq (c : Dev nD) (w : Fin cfg0.W) : (dats m 0 c).A w = V m c (Pipeline.arrRef spec0 w) := by dsimp only [dats]

/-- The grid has one axis. -/
theorem coords_val : ∀ t : Fin grid0.N, (grid0.coords t 0).val = t.val := by decide +kernel

/-! ## The body at a point -/

/-- A whole staging buffer that reads `X` is held at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

/-- Each staging buffer is a whole buffer. -/
theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)

/-- What the body is handed at a point: the scratch, and the staging buffers at their blocks; the output's buffer at anything. -/
def bodyPre (c : Dev nD) (t : Fin cfg0.N) (Y : S1x2048x257.Idx → Elt F .f32) : sProp 𝕄 :=
  iprop(Φc m c t.val ∗ (∃ W, owes (c : Thread nD τ) 0 W)
    ∗ owns (c : Thread nD τ) (st0_0 t) fullShare (dBlk m c t.val) ∗ owns (c : Thread nD τ) (st0_1 t) fullShare (xBlk m c t.val)
    ∗ owns (c : Thread nD τ) (st0_2 t) fullShare (wBlk m c t.val) ∗ owns (c : Thread nD τ) (st0_3 t) fullShare (bBlk m c t.val)
    ∗ owns (c : Thread nD τ) (st0_4 t) fullShare Y)
/-- What it hands back: the scratch one point later, the blocks as they were, the output's buffer at `Y`. -/
def bodyPost (c : Dev nD) (t : Fin cfg0.N) (Y : S1x2048x257.Idx → Elt F .f32) : sProp 𝕄 :=
  iprop(Φc m c (t.val + 1) ∗ (∃ W, owes (c : Thread nD τ) 0 W)
    ∗ owns (c : Thread nD τ) (st0_0 t) fullShare (dBlk m c t.val) ∗ owns (c : Thread nD τ) (st0_1 t) fullShare (xBlk m c t.val)
    ∗ owns (c : Thread nD τ) (st0_2 t) fullShare (wBlk m c t.val) ∗ owns (c : Thread nD τ) (st0_3 t) fullShare (bBlk m c t.val)
    ∗ owns (c : Thread nD τ) (st0_4 t) fullShare Y)

/-- A point of the first four leaves the output's buffer alone. -/
theorem sound_load (c : Dev nD) (t : Fin cfg0.N) (ht : t.val < 4) (Y : S1x2048x257.Idx → Elt F .f32) :
    bodyPre m c t Y ⊢ wp frame (wpE (defs₀ (F := F)) Variants.none c none) Set.univ (bodyAt0 t) (fun _ => bodyPost m c t Y) := by
  have hv := coords_val t
  unfold bodyPre bodyPost bodyAt0 Φc
  rw [owns_pt c _ (hst0 t), owns_pt c _ (hst1 t), owns_pt c _ (hst2 t)]
  iintro ⟨⟨%f0, %f1, %f2, %f3, %f4, %hI, S0, S1, S2, S3, S4, Hg⟩, ⟨%W, HO⟩, ⟨%g1, %e1, H1⟩, ⟨%g2, %e2, H2⟩, ⟨%g3, %e3, H3⟩, H4, H5⟩
  iapply (run_load c (grid0.coords t) (by rw [hv]; exact ht) (st0_0 t) (hst0 t) (st0_1 t) (hst1 t) (st0_2 t) (hst2 t) (st0_3 t) (hst3 t) (st0_4 t) (hst4 t)
    g1 g2 g3 f0 f1 f2 f3 W _)
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [HO]; · iexact HO
  iintro ⟨H1, H2, H3, ⟨%f0', %r0, S0⟩, ⟨%f1', %r1, S1⟩, ⟨%f2', %r2, S2⟩, ⟨%f3', %r3, S3⟩, HO⟩
  isplitl [S0 S1 S2 S3 S4 Hg]
  · iexists f0', f1', f2', f3', f4
    isplitr
    · ipureintro
      rw [r0, r1, r2, r3, e1, e2, e3, hv]
      exact hI.load m ht
    isplitl [S0]; · iexact S0
    isplitl [S1]; · iexact S1
    isplitl [S2]; · iexact S2
    isplitl [S3]; · iexact S3
    isplitl [S4]; · iexact S4
    iexact Hg
  isplitl [HO]; · iexact HO
  isplitl [H1]
  · iexists g1; isplitr; · ipureintro; exact e1
    iexact H1
  isplitl [H2]
  · iexists g2; isplitr; · ipureintro; exact e2
    iexact H2
  isplitl [H3]
  · iexists g3; isplitr; · ipureintro; exact e3
    iexact H3
  isplitl [H4]; · iexact H4
  iexact H5

/-- A point of the last eight leaves its batch entry in the output's buffer. -/
theorem sound_last (c : Dev nD) (t : Fin cfg0.N) (ht : 4 ≤ t.val) (Y : S1x2048x257.Idx → Elt F .f32) :
    bodyPre m c t Y ⊢ wp frame (wpE (defs₀ (F := F)) Variants.none c none) Set.univ (bodyAt0 t) (fun _ => bodyPost m c t (outOf m c t.val)) := by
  have hv := coords_val t
  have hN : t.val < 12 := by have h : t.val < grid0.N := t.isLt; rwa [N_0] at h
  unfold bodyPre bodyPost bodyAt0 Φc
  rw [owns_pt c _ (hst3 t), owns_pt c _ (hst4 t), owns_pt c _ (hst4 t)]
  iintro ⟨⟨%f0, %f1, %f2, %f3, %f4, %hI, S0, S1, S2, S3, S4, Hg⟩, ⟨%W, HO⟩, H1, H2, H3, ⟨%g4, %e4, H4⟩, ⟨%g5, %e5, H5⟩⟩
  iapply (run_last c (grid0.coords t) (by rw [hv]; exact ht) (by rw [hv]; exact hN) (st0_0 t) (hst0 t) (st0_1 t) (hst1 t) (st0_2 t) (hst2 t) (st0_3 t) (hst3 t) (st0_4 t) (hst4 t)
    g4 g5 f0 f1 f2 f3 f4 W _)
  isplitl [H4]; · iexact H4
  isplitl [H5]; · iexact H5
  isplitl [S0]; · iexact S0
  isplitl [S1]; · iexact S1
  isplitl [S2]; · iexact S2
  isplitl [S3]; · iexact S3
  isplitl [S4]; · iexact S4
  isplitl [HO]; · iexact HO
  iintro ⟨H4, ⟨%g5', %r5, H5⟩, S0, S1, S2, S3, ⟨%f4', %r4, S4⟩, HO⟩
  have hgate : sg.view.read (Elt F) f4' = gate m c := by
    rw [r4, e4, hv]; exact hI.gate_eq m ht
  isplitl [S0 S1 S2 S3 S4 Hg]
  · iexists f0, f1, f2, f3, f4'
    isplitr
    · ipureintro; exact hI.last m ht hgate
    isplitl [S0]; · iexact S0
    isplitl [S1]; · iexact S1
    isplitl [S2]; · iexact S2
    isplitl [S3]; · iexact S3
    isplitl [S4]; · iexact S4
    iexact Hg
  isplitl [HO]; · iexact HO
  isplitl [H1]; · iexact H1
  isplitl [H2]; · iexact H2
  isplitl [H3]; · iexact H3
  isplitl [H4]
  · iexists g4; isplitr; · ipureintro; exact e4
    iexact H4
  iexists g5'; isplitr
  · ipureintro
    rw [r5, ← r4, hgate, hI.x_eq m ht]
    unfold outOf
    congr 1
    rw [hv, Nat.mod_eq_of_lt hN]
  iexact H5

/-! ## The body obligation -/

/-- The result window is idle while the blocks are read in, and at no point after. -/
theorem idle_load : ∀ t : Fin grid0.N, t.val < 4 → idle0 4 (grid0.coords t) = true := by decide +kernel
theorem idle_last : ∀ t : Fin grid0.N, 4 ≤ t.val → idle0 4 (grid0.coords t) = false := by decide +kernel
theorem flush_load : ∀ t : Fin grid0.N, t.val < 4 → win0_4.flush t = false := by decide +kernel
theorem flush_last : ∀ t : Fin grid0.N, 4 ≤ t.val → win0_4.flush t = true := by decide +kernel

/-- At every point the body finds the block of each input that the point names. -/
theorem before0 (c : Dev nD) (t : Fin cfg0.N) (d) : (dats m 0 c).before 0 t d = dBlk m c t.val := by
  rw [before0_0_of m (dats m 0 c) (A_eq m c 0) (fun _ => rfl) t d]; unfold dBlk; rw [pN_val]
theorem before1 (c : Dev nD) (t : Fin cfg0.N) (d) : (dats m 0 c).before 1 t d = xBlk m c t.val := by
  rw [before0_1_of m (dats m 0 c) (A_eq m c 1) (fun _ => rfl) t d]; unfold xBlk; rw [pN_val]
theorem before2 (c : Dev nD) (t : Fin cfg0.N) (d) : (dats m 0 c).before 2 t d = wBlk m c t.val := by
  rw [before0_2_of m (dats m 0 c) (A_eq m c 2) (fun _ => rfl) t d]; unfold wBlk; rw [pN_val]
theorem before3 (c : Dev nD) (t : Fin cfg0.N) (d) : (dats m 0 c).before 3 t d = bBlk m c t.val := by
  rw [before0_3_of m (dats m 0 c) (A_eq m c 3) (fun _ => rfl) t d]; unfold bBlk; rw [pN_val]
/-- And it leaves it there. -/
theorem after0 (c : Dev nD) (t : Fin cfg0.N) : (dats m 0 c).after 0 t = dBlk m c t.val := by
  show iblk m c 0 t = _; unfold dBlk; rw [pN_val]
theorem after1 (c : Dev nD) (t : Fin cfg0.N) : (dats m 0 c).after 1 t = xBlk m c t.val := by
  show iblk m c 1 t = _; unfold xBlk; rw [pN_val]
theorem after2 (c : Dev nD) (t : Fin cfg0.N) : (dats m 0 c).after 2 t = wBlk m c t.val := by
  show iblk m c 2 t = _; unfold wBlk; rw [pN_val]
theorem after3 (c : Dev nD) (t : Fin cfg0.N) : (dats m 0 c).after 3 t = bBlk m c t.val := by
  show iblk m c 3 t = _; unfold bBlk; rw [pN_val]

/-- The body table's row at the point is the body as it stands in the program. -/
theorem defs₀_row (t : Fin cfg0.N) : defs₀ (F := F) .tc cfg0.body (cfg0.bodyArgs t (cfg0.slots t)) = bodyAt0 t := by
  unfold defs₀; rw [Defs.onTc_tc]

/-- What the pipeline hands the body at a point, the input windows at their blocks. -/
def pointPre (c : Dev nD) (t : Fin cfg0.N) : sProp 𝕄 :=
  iprop((dats m 0 c).Φ t.castSucc ∗ (dats m 0 c).owesAt () t.castSucc
      ∗ (∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d)))
/-- What the pipeline takes back, the output window as `R` says. -/
def pointPost (c : Dev nD) (t : Fin cfg0.N) (R : sProp 𝕄) : sProp 𝕄 :=
  iprop((dats m 0 c).Φ t.succ ∗ (dats m 0 c).owesAt () t.succ
      ∗ owns (c : Thread nD τ) (st0_0 t) fullShare ((dats m 0 c).after 0 t) ∗ owns (c : Thread nD τ) (st0_1 t) fullShare ((dats m 0 c).after 1 t)
      ∗ owns (c : Thread nD τ) (st0_2 t) fullShare ((dats m 0 c).after 2 t) ∗ owns (c : Thread nD τ) (st0_3 t) fullShare ((dats m 0 c).after 3 t) ∗ R)

/-- The windows as the pipeline states them are the windows as the body wants them. -/
theorem pointPre_bodyPre (c : Dev nD) (t : Fin cfg0.N) : pointPre m c t ⊢ iprop(∃ d, bodyPre m c t ((dats m 0 c).before 4 t d)) := by
  unfold pointPre bodyPre
  simp only [before0, before1, before2, before3]
  show iprop(Φc m c t.val ∗ _) ⊢ _
  unfold Dat.owesAt Pipeline.owesWithin
  rw [show (dats m 0 c).owed t.castSucc = 0 from rfl]
  iintro ⟨HΦ, ⟨%W, %hW, HO⟩, ⟨%d0, H0⟩, ⟨%d1, H1⟩, ⟨%d2, H2⟩, ⟨%d3, H3⟩, ⟨%d4, H4⟩⟩
  iexists d4
  isplitl [HΦ]; · iexact HΦ
  isplitl [HO]; · iexists W; iexact HO
  isplitl [H0]; · iexact H0
  isplitl [H1]; · iexact H1
  isplitl [H2]; · iexact H2
  isplitl [H3]; · iexact H3
  iexact H4

/-- And back. -/
theorem bodyPost_pointPost (c : Dev nD) (t : Fin cfg0.N) (Y : S1x2048x257.Idx → Elt F .f32) (R : sProp 𝕄) (h : owns (c : Thread nD τ) (st0_4 t) fullShare Y ⊢ R) :
    bodyPost m c t Y ⊢ pointPost m c t R := by
  unfold pointPost bodyPost
  simp only [after0, after1, after2, after3]
  show _ ⊢ iprop(Φc m c (t.val + 1) ∗ _)
  unfold Dat.owesAt Pipeline.owesWithin
  rw [show (dats m 0 c).owed t.succ = 0 from rfl]
  iintro ⟨HΦ, ⟨%W, HO⟩, H0, H1, H2, H3, H4⟩
  isplitl [HΦ]; · iexact HΦ
  isplitl [HO]
  · iexists W; isplitr; · ipureintro; exact fun _ _ => Or.inl trivial
    iexact HO
  isplitl [H0]; · iexact H0
  isplitl [H1]; · iexact H1
  isplitl [H2]; · iexact H2
  isplitl [H3]; · iexact H3
  iapply h; iexact H4

/-- A point that reads a block in. -/
theorem point_load (c : Dev nD) (t : Fin cfg0.N) (ht : t.val < 4) :
    pointPre m c t ⊢ wp frame (wpE (defs₀ (F := F)) Variants.none c none) Set.univ (bodyAt0 t)
      (fun _ => pointPost m c t iprop(∃ d, owns (c : Thread nD τ) (st0_4 t) fullShare ((dats m 0 c).before 4 t d))) :=
  (pointPre_bodyPre m c t).trans (exists_elim fun d => (sound_load m c t ht _).trans (wp_mono _ _ _ fun _ =>
    bodyPost_pointPost m c t _ _ (exists_intro (Φ := fun d => owns (c : Thread nD τ) (st0_4 t) fullShare ((dats m 0 c).before 4 t d)) d)))

/-- A point that writes a batch entry out. -/
theorem point_last (c : Dev nD) (t : Fin cfg0.N) (ht : 4 ≤ t.val) :
    pointPre m c t ⊢ wp frame (wpE (defs₀ (F := F)) Variants.none c none) Set.univ (bodyAt0 t)
      (fun _ => pointPost m c t (owns (c : Thread nD τ) (st0_4 t) fullShare ((dats m 0 c).after 4 t))) :=
  (pointPre_bodyPre m c t).trans (exists_elim fun d => (sound_last m c t ht _).trans (wp_mono _ _ _ fun _ =>
    bodyPost_pointPost m c t _ _ .rfl))

/-- The library's body obligation. -/
theorem body_obligation (c : Dev nD) : BodyObligation (dats (F := F) m 0 c) (defs₀ (F := F)) Variants.none () Set.univ := fun t => by
  rw [bigSep_W0, bigSep_W0, defs₀_row]
  by_cases ht : t.val < 4
  · refine triple_restated (point_load m c t ht) rfl .rfl fun _ => ?_
    have e1 : cfg0.idle 4 (cfg0.grid.coords t) = true := idle_load t ht
    have e2 : (cfg0.win 4).flush t = false := flush_load t ht
    rw [e1, e2]
    exact .rfl
  · refine triple_restated (point_last m c t (by omega)) rfl .rfl fun _ => ?_
    have e1 : cfg0.idle 4 (cfg0.grid.coords t) = false := idle_last t (by omega)
    rw [e1]
    exact .rfl

/-! ## The launch -/

set_option backward.isDefEq.respectTransparency.types false in
/-- From any memory with zero counters every fair execution ends, with the arrays at what the proof data says, every other
    buffer as the launch found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      unfold Pipeline.ΦA
      rw [scopedRest0_eq]
      show _ ⊢ Φc m c 0
      unfold Φc
      iintro ⟨⟨⟨%f0, S0⟩, ⟨%f1, S1⟩, ⟨%f2, S2⟩, ⟨%f3, S3⟩, ⟨%f4, S4⟩⟩, Hg⟩
      iexists f0, f1, f2, f3, f4
      isplitr; · ipureintro; exact Inv.zero m c _ _ _ _ _
      isplitl [S0]; · iexact S0
      isplitl [S1]; · iexact S1
      isplitl [S2]; · iexact S2
      isplitl [S3]; · iexact S3
      isplitl [S4]; · iexact S4
      iexact Hg)
    (hout := fun c => by
      unfold Pipeline.ΦA
      rw [scopedRest0_eq]
      show Φc m c _ ⊢ _
      unfold Φc
      iintro ⟨%f0, %f1, %f2, %f3, %f4, %hI, S0, S1, S2, S3, S4, Hg⟩
      isplitl [S0 S1 S2 S3 S4]
      · isplitl [S0]; · iexists f0; iexact S0
        isplitl [S1]; · iexists f1; iexact S1
        isplitl [S2]; · iexists f2; iexact S2
        isplitl [S3]; · iexists f3; iexact S3
        iexists f4; iexact S4
      iexact Hg)
    (hQ' := fun _ h => h)

end Cert.KernelIdeal.Hand

end
-- ==== Proof.Same.lean ====
/-
  The kernel as printed and its idealization are the same text: their definitions agree, so one run of the
  idealized text at any value instance is a run of the printed kernel.
-/
module

public import proofs.«01_k».proof.Proof.Gen.KernelIdeal
public import proofs.«01_k».proof.Proof.Gen.Kernel

@[expose] public section

set_option maxRecDepth 65536

noncomputable section

namespace Cert.Same

open Idealize.ShloMosaic

variable {F : FTy → Type} [FloatOps F]

/-- The two kernel functions are one. -/
theorem cc_eq : Kernel.cc0__fused_kernel (F := F) = KernelIdeal.cc0__fused_kernel (F := F) := rfl

/-- The two body tables are one. -/
theorem defs₀_eq : Kernel.defs₀ (F := F) = KernelIdeal.defs₀ (F := F) := by
  unfold Kernel.defs₀ KernelIdeal.defs₀
  congr 1
  funext b x
  match b, x with
  | 0, (t, s) =>
    show Kernel.cc0__fused_kernel (F := F) _ _ _ _ _ _ _ _ _ _ _ _ _ _ _ _ _ _ _ _ _
      = KernelIdeal.cc0__fused_kernel (F := F) _ _ _ _ _ _ _ _ _ _ _ _ _ _ _ _ _ _ _ _ _
    rw [cc_eq]
    rfl

/-- So are the tables with the pipeline's own labels. -/
theorem defs_eq : Kernel.defs (F := F) = KernelIdeal.defs (F := F) := by
  unfold Kernel.defs KernelIdeal.defs
  rw [defs₀_eq]
  rfl

/-- And the two main functions. -/
theorem main_eq : Kernel.main (F := F) = KernelIdeal.main (F := F) := rfl

end Cert.Same

end
-- ==== Proof.Frames.lean ====
/- The frame of each of the three programs: it runs to the end, its arguments end as they began, every counter ends at zero. -/
module

public import proofs.«01_k».proof.Defs
public import proofs.«01_k».proof.Proof.Run
public import proofs.«01_k».proof.Proof.Same
public import proofs.«01_k».proof.Proof.Gen.Kernel
public import proofs.«01_k».proof.Proof.Gen.ReferenceIdeal
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem
open Cert.KernelIdeal Cert.KernelIdeal.Gen Cert.KernelIdeal.Hand

variable {F : FTy → Type} [FloatOps F]
variable (m : (ℓ : Loc nD τ sig) → Buf (Elt F) ℓ) (ρ : Dev nD → PrngReg)

/-- The kernel over any float values: the arguments end as they began and every counter ends at zero. -/
theorem frame_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The kernel over the reals. -/
theorem frame_ideal : Cert.quiescent_KernelIdeal := fun m ρ _ => frame_any m ρ

/-- The kernel over floats bit by bit: its text is the other's, word for word. -/
theorem frame_bits : Cert.quiescent_Kernel := fun m ρ _ => by
  rw [Same.defs_eq, Same.main_eq]
  exact frame_any (F := Bits) m ρ

/-- The reference: host operations only, and no counter at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/- What the kernel leaves in its result, over any float values: the array put together from the blocks written back, and
   the blocks the grid points are handed, read at coordinates of the argument arrays. -/
module

public import proofs.«01_k».proof.Proof.Run
public import Idealize.ShloMosaic.Lib.Claim
public import Idealize.ShloMosaic.Lib.Pipeline.ValueKit

@[expose] public section

noncomputable section

namespace Cert.KernelIdeal.Hand

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-! ## The blocks at coordinates -/

/-- The row of the whole array that row `a` of block `k` is. -/
abbrev row (k : Fin 4) (a : Fin 512) : Fin 2048 := ⟨k.val * 512 + a.val, by omega⟩

/-- The distances, the features, the weights and the bias as launched. -/
abbrev dist (c : Dev nD) : S2048x2048.Idx → Elt F .f32 := m ((c.tc : Thread nD τ).loc main_arg1)
abbrev feat (c : Dev nD) : S8x2048x256.Idx → Elt F .f32 := m ((c.tc : Thread nD τ).loc main_arg0)
abbrev weights (c : Dev nD) : S2x256x1.Idx → Elt F .f32 := m ((c.tc : Thread nD τ).loc main_arg2)
abbrev bias (c : Dev nD) : S1.Idx → Elt F .f32 := m ((c.tc : Thread nD τ).loc main_arg3)

/-- The rows of distances that point `k` is handed. -/
theorem dBlk_apply (c : Dev nD) (k : Fin 4) (a : Fin 512) (n : Fin 2048) : dBlk m c k.val (ix2 a n) = dist m c (ix2 (row k a) n) := by
  have h : ∀ k : Fin 4, (win0_0.index (pN k.val) 0 : ℕ) = k.val ∧ (win0_0.index (pN k.val) 1 : ℕ) = 0 := by decide +kernel
  unfold dBlk iblk
  rw [View.read_apply]
  refine (congrFun (V_main_arg1 m c) _).trans ?_
  refine congrArg (dist m c) (funext fun x => Fin.ext ?_)
  match x with
  | 0 => refine (Pipeline.Window.rect_emb_val win0_0 (pN k.val) (ix2 a n) 0).trans ?_; rw [(h k).1]; rfl
  | 1 => exact Pipeline.Window.rect_emb_val_of_index_zero win0_0 (pN k.val) 1 (h k).2 (ix2 a n)

/-- The nodes whose features point `k` is handed. -/
theorem xBlk_apply (c : Dev nD) (k : Fin 4) (b : Fin 8) (a : Fin 512) (ch : Fin 256) : xBlk m c k.val (ix3 b a ch) = feat m c (ix3 b (row k a) ch) := by
  have h : ∀ k : Fin 4, (win0_1.index (pN k.val) 0 : ℕ) = 0 ∧ (win0_1.index (pN k.val) 1 : ℕ) = k.val ∧ (win0_1.index (pN k.val) 2 : ℕ) = 0 := by decide +kernel
  unfold xBlk iblk
  rw [View.read_apply]
  refine (congrFun (V_main_arg0 m c) _).trans ?_
  refine congrArg (feat m c) (funext fun x => Fin.ext ?_)
  match x with
  | 0 => exact Pipeline.Window.rect_emb_val_of_index_zero win0_1 (pN k.val) 0 (h k).1 (ix3 b a ch)
  | 1 => refine (Pipeline.Window.rect_emb_val win0_1 (pN k.val) (ix3 b a ch) 1).trans ?_; rw [(h k).2.1]; rfl
  | 2 => exact Pipeline.Window.rect_emb_val_of_index_zero win0_1 (pN k.val) 2 (h k).2.2 (ix3 b a ch)

/-- The weights as the region finds them: the launched ones without their last axis. -/
theorem entry_weights (c : Dev nD) : V m c main_call0_v0 = shapeCast S2x256 (weights m c) shapeCasts_S2x256x1_S2x256 := by
  entry_read
  rfl
/-- The bias as the region finds it. -/
theorem entry_bias (c : Dev nD) : V m c main_call0_v1 = shapeCast S1x1 (bias m c) shapeCasts_S1_S1x1 := by
  entry_read
  rfl

/-- Every point is handed all the weights, -/
theorem wBlk_apply (c : Dev nD) (k : Fin 12) (r : Fin 2) (ch : Fin 256) : wBlk m c k.val (ix2 r ch) = weights m c (ix3 r ch 0) := by
  have h : ∀ k : Fin 12, (win0_2.index (pN k.val) 0 : ℕ) = 0 ∧ (win0_2.index (pN k.val) 1 : ℕ) = 0 := by decide +kernel
  unfold wBlk iblk
  rw [View.read_apply]
  refine (congrFun (entry_weights m c) _).trans ?_
  refine Eq.trans (congrArg (shapeCast S2x256 (weights m c) shapeCasts_S2x256x1_S2x256) (show _ = (ix2 r ch : S2x256.Idx) from funext fun x => Fin.ext ?_)) ?_
  · match x with
    | 0 => exact Pipeline.Window.rect_emb_val_of_index_zero win0_2 (pN k.val) 0 (h k).1 (ix2 r ch)
    | 1 => exact Pipeline.Window.rect_emb_val_of_index_zero win0_2 (pN k.val) 1 (h k).2 (ix2 r ch)
  · simp only [pointwise]

/-- and the bias. -/
theorem bBlk_apply (c : Dev nD) (k : Fin 12) : bBlk m c k.val (ix2 0 0) = bias m c (ix1 0) := by
  have h : ∀ k : Fin 12, (win0_3.index (pN k.val) 0 : ℕ) = 0 ∧ (win0_3.index (pN k.val) 1 : ℕ) = 0 := by decide +kernel
  unfold bBlk iblk
  rw [View.read_apply]
  refine (congrFun (entry_bias m c) _).trans ?_
  refine Eq.trans (congrArg (shapeCast S1x1 (bias m c) shapeCasts_S1_S1x1) (show _ = (ix2 0 0 : S1x1.Idx) from funext fun x => Fin.ext ?_)) ?_
  · match x with
    | 0 => exact Pipeline.Window.rect_emb_val_of_index_zero win0_3 (pN k.val) 0 (h k).1 (ix2 0 0)
    | 1 => exact Pipeline.Window.rect_emb_val_of_index_zero win0_3 (pN k.val) 1 (h k).2 (ix2 0 0)
  · simp only [pointwise]

/-! ## The result array -/

/-- The result: the features, and behind them the gate. -/
def result (c : Dev nD) : S8x2048x257.Idx → Elt F .f32 := fun i =>
  outAt ((i 0).val + 4) (by have := (i 0).isLt; simpa using this) (xAll m c) (gate m c) (i 1) (i 2)

/-- The result at equal coordinates. -/
theorem outAt_congr {s s' : ℕ} (e : s = s') (hs : s - 4 < 8) (hs' : s' - 4 < 8) (X : S8x2048x256.Idx → Elt F .f32) (G : S8x2048.Idx → Elt F .f32)
    {n n' : Fin 2048} {k k' : Fin 257} (hn : n = n') (hk : k = k') : outAt s hs X G n k = outAt s' hs' X G n' k' := by
  subst e hn hk; rfl

/-- The blocks written back make the result. -/
theorem result_eq (c : Dev nD) : (dats m 0 c).arrAt 4 cfg0.N = result m c := by
  refine (dats m 0 c).arrAt_eq_of_covers 4 (result m c) (by decide +kernel) fun t hf y => ?_
  have h4 : 4 ≤ t.val := by
    by_contra h
    exact absurd (flush_load t (by omega)) (by rw [hf]; decide)
  have h : ∀ t : Fin grid0.N, 4 ≤ t.val → (win0_4.index t 0 : ℕ) = t.val - 4 ∧ (win0_4.index t 1 : ℕ) = 0 ∧ (win0_4.index t 2 : ℕ) = 0 := by decide +kernel
  have e0 := Pipeline.Window.rect_emb_val win0_4 t y 0
  have e1 := Pipeline.Window.rect_emb_val_of_index_zero win0_4 t 1 (h t h4).2.1 y
  have e2 := Pipeline.Window.rect_emb_val_of_index_zero win0_4 t 2 (h t h4).2.2 y
  rw [(h t h4).1] at e0
  have hy : (y 0).val < 1 := (y 0).isLt
  have hN : t.val < 12 := Nat.lt_of_lt_of_eq t.isLt N_0
  have hs : win0_4.size 0 = 1 := rfl
  rw [hs] at e0
  show outOf m c t.val _ = outAt _ _ _ _ _ _
  unfold outOf outBlock
  refine outAt_congr ?_ _ _ _ _ (Fin.ext ?_) (Fin.ext ?_)
  · refine Eq.trans ?_ (congrArg (· + 4) e0.symm)
    show t.val % 12 = _
    dsimp only
    omega
  · exact e1.symm
  · exact e2.symm

end Cert.KernelIdeal.Hand

end
-- ==== Proof.Graph.lean ====
/- The one equation behind the value claim, over the extended reals: the kernel's order of the sums against the reference's.
   Nothing here speaks of a program. -/
module

public import Idealize.ShloMosaic.PureOps.Ideal

@[expose] public section

noncomputable section

namespace Cert.Graph

open Idealize.ShloMosaic

/-- The threshold, as the programs write it. -/
abbrev lim : EReal := Ideal.ofBits .f32 0x43480000#32

/-- The weight of an edge of length `v`, as the kernel cuts it off. -/
def cut (v : EReal) : EReal := if v < lim then v else 0
/-- The weight of an edge of length `v`, as the reference cuts it off. -/
def edge (v : EReal) : EReal := if 0 < v ∧ v < lim then v else 0
/-- One over the square root of a degree, zero where there is none. -/
def inv (v : EReal) : EReal := if 0 < v then Ideal.rsqrt v else 0

/-- An extended real that is a real number. -/
def IsReal (v : EReal) : Prop := ∃ r : ℝ, v = r

/-- On distances at least zero the two cuts are one. -/
theorem edge_eq_cut {v : EReal} (h : 0 ≤ v) : edge v = cut v := by
  unfold edge cut
  rcases h.eq_or_lt with h | h
  · subst h; simp
  · simp [h]

/-- A number between the infinities is real. -/
theorem real_of_ne {v : EReal} (hb : v ≠ ⊥) (ht : v ≠ ⊤) : IsReal v := ⟨v.toReal, (EReal.coe_toReal ht hb).symm⟩

/-- A distance cut off is a real number: above the threshold it is zero. -/
theorem cut_real {v : EReal} (h : 0 ≤ v) : IsReal (cut v) := by
  unfold cut; split
  · rename_i hv
    exact real_of_ne (fun e => by simp [e] at h) (fun e => not_top_lt (e ▸ hv))
  · exact ⟨0, rfl⟩

/-- A sum of real numbers, taken among the extended reals. -/
theorem coe_sum {ι : Type} (s : Finset ι) (g : ι → ℝ) : ∑ i ∈ s, (g i : EReal) = ((∑ i ∈ s, g i : ℝ) : EReal) :=
  (map_sum (⟨⟨Real.toEReal, EReal.coe_zero⟩, EReal.coe_add⟩ : ℝ →+ EReal) g s).symm

/-- A sum of real numbers is one. -/
theorem sum_real {ι : Type} (s : Finset ι) {f : ι → EReal} (h : ∀ i, IsReal (f i)) : IsReal (∑ i ∈ s, f i) := by
  choose g hg using h
  exact ⟨∑ i ∈ s, g i, by simp only [hg]; exact coe_sum s g⟩

/-- The factor of a real degree is real. -/
theorem inv_real {v : EReal} (h : IsReal v) : IsReal (inv v) := by
  obtain ⟨r, rfl⟩ := h
  unfold inv; split
  · rename_i hr
    have hr : 0 < r := by exact_mod_cast hr
    refine ⟨(Real.sqrt r)⁻¹, ?_⟩
    show (if r < 0 then (⊥ : EReal) else if r = 0 then ⊤ else ((Real.sqrt r)⁻¹ : ℝ)) = _
    rw [if_neg hr.not_gt, if_neg hr.ne']
  · exact ⟨0, rfl⟩

/-- A number whose absolute value is below infinity is real. -/
theorem real_of_abs_lt {v : EReal} (h : max v (-v) < ⊤) : IsReal v :=
  real_of_ne (fun e => by simp [e] at h) (fun e => by simp [e] at h)

/-- Over real weights, the features summed over the neighbours first and over the channels then are the channels first and
    the neighbours then, the node's own factor and the sign taken out. -/
theorem regroup {ι κ : Type} [Fintype ι] [Fintype κ] (E : ι → EReal) (I : ι → EReal) (J : EReal) (x : ι → κ → EReal) (w : κ → EReal)
    (hE : ∀ i, IsReal (E i)) (hI : ∀ i, IsReal (I i)) (hJ : IsReal J) (hx : ∀ i ch, IsReal (x i ch)) (hw : ∀ ch, IsReal (w ch)) :
    ∑ ch, (∑ i, x i ch * -((E i * J) * I i)) * w ch = -(J * ∑ i, (∑ ch, w ch * x i ch) * (E i * I i)) := by
  choose E' hE using hE
  choose I' hI using hI
  obtain ⟨J', rfl⟩ := hJ
  choose x' hx using hx
  choose w' hw using hw
  simp only [hE, hI, hx, hw, ← EReal.coe_mul, ← EReal.coe_neg, coe_sum]
  refine congrArg Real.toEReal ?_
  simp only [Finset.mul_sum, Finset.sum_mul, ← Finset.sum_neg_distrib]
  rw [Finset.sum_comm]
  refine Finset.sum_congr rfl fun i _ => Finset.sum_congr rfl fun ch _ => ?_
  ring

/-- The two texts agree before the last step: `d` the distances, `x` the features of one batch entry, `w₀` and `w₁` the two
    rows of the weights, `b` the bias, at node `n`. -/
theorem agree {ι κ : Type} [Fintype ι] [Fintype κ] (d : ι → ι → EReal) (x : ι → κ → EReal) (w₀ w₁ : κ → EReal) (b : EReal) (n : ι)
    (hs : ∀ i j, d i j = d j i) (hd : ∀ i j, 0 ≤ d i j) (hx : ∀ i ch, IsReal (x i ch)) (hw : ∀ ch, IsReal (w₁ ch)) :
    (∑ ch, x n ch * w₀ ch
        + ∑ ch, (∑ i, x i ch * -((edge (d n i) * inv (∑ j, edge (d n j))) * inv (∑ j, edge (d i j)))) * w₁ ch) + b
      = (∑ ch, w₀ ch * x n ch
        - inv (∑ i, cut (d i n)) * ∑ i, (∑ ch, w₁ ch * x i ch) * (cut (d i n) * inv (∑ j, cut (d i j)))) + b := by
  simp only [fun i j => edge_eq_cut (hd i j)]
  have hD : ∀ i, IsReal (∑ j, cut (d i j)) := fun i => sum_real _ fun j => cut_real (hd i j)
  rw [regroup (fun i => cut (d n i)) (fun i => inv (∑ j, cut (d i j))) _ x w₁ (fun i => cut_real (hd n i)) (fun i => inv_real (hD i)) (inv_real (hD n)) hx hw]
  simp only [fun i => hs i n, mul_comm (x n _), sub_eq_add_neg]

end Cert.Graph

end
-- ==== Proof.Pay.lean ====
/- What one step of the kernel computes over the reals, element by element. -/
module

public import proofs.«01_k».proof.Proof.Value
public import proofs.«01_k».proof.Proof.Graph
public import Idealize.ShloMosaic.PureOps.Ideal
public import Idealize.ShloMosaic.Lib.Pointwise

@[expose] public section

noncomputable section

namespace Cert.KernelIdeal.Hand

open Idealize.ShloMosaic Idealize.ShloMosaic.TcCoe Idealize.SL.Sem
open Cert.KernelIdeal Cert.KernelIdeal.Gen Cert.Graph

/-- The edge weights of a block. -/
theorem pay8_apply (v : FVec Ideal S512x2048 .f32) (a : Fin 512) (n : Fin 2048) : k0_pay8 (F := Ideal) v (ix2 a n) = cut (v (ix2 a n)) := by
  pointwise [k0_pay8, cut]

/-- The block's sums down its columns. -/
theorem pay9_apply (v : FVec Ideal S512x2048 .f32) (n : Fin 2048) : k0_pay9 (F := Ideal) v (ix2 0 n) = ∑ a : Fin 512, cut (v (ix2 a n)) := by
  pointwise [k0_pay9]
  exact Finset.sum_congr rfl fun a _ => pay8_apply v a n

/-- Both rows of the weights against the features of a block. -/
theorem pay11_apply (x : FVec Ideal S8x512x256 .f32) (w : FVec Ideal S2x256 .f32) (r : Fin 2) (b : Fin 8) (a : Fin 512) :
    k0_pay11 (F := Ideal) x w (ix3 r b a) = ∑ ch : Fin 256, w (ix2 r ch) * x (ix3 b a ch) := by
  pointwise [k0_pay11]

/-- The first term of a block. -/
theorem pay12_apply (x : FVec Ideal S8x512x256 .f32) (w : FVec Ideal S2x256 .f32) (b : Fin 8) (a : Fin 512) :
    k0_pay12 (F := Ideal) x w (ix2 b a) = ∑ ch : Fin 256, w (ix2 0 ch) * x (ix3 b a ch) := by
  pointwise [k0_pay12]
  exact pay11_apply x w 0 b a

/-- What a block adds to the second term: the neighbours' sums, weighed by the edges and the neighbours' own factors. -/
theorem pay13_apply (v : FVec Ideal S512x2048 .f32) (x : FVec Ideal S8x512x256 .f32) (w : FVec Ideal S2x256 .f32) (b : Fin 8) (n : Fin 2048) :
    k0_pay13 (F := Ideal) v x w (ix2 b n) = ∑ a : Fin 512, (∑ ch : Fin 256, w (ix2 1 ch) * x (ix3 b a ch)) * (cut (v (ix2 a n)) * inv (∑ n' : Fin 2048, cut (v (ix2 a n')))) := by
  pointwise [k0_pay13]
  refine Finset.sum_congr rfl fun a _ => ?_
  rw [pay11_apply, pay8_apply]
  simp only [pay8_apply]
  rfl

/-- The gate from the degrees, the two terms and the bias. -/
theorem pay5_apply (d : FVec Ideal S1x2048 .f32) (u t : FVec Ideal S8x2048 .f32) (bb : FVec Ideal S1x1 .f32) (b : Fin 8) (n : Fin 2048) :
    k0_pay5 (F := Ideal) d u t bb (ix2 b n) = Ideal.logistic ((u (ix2 b n) - inv (d (ix2 0 n)) * t (ix2 b n)) + bb (ix2 0 0)) := by
  pointwise [k0_pay5]
  rfl

/-! ## The sums over the four blocks are sums over the nodes -/

/-- A sum over all nodes, block by block. -/
theorem sum_blocks {M : Type} [AddCommMonoid M] (f : Fin 2048 → M) :
    ((∑ a, f (row 0 a) + ∑ a, f (row 1 a)) + ∑ a, f (row 2 a)) + ∑ a, f (row 3 a) = ∑ i, f i := by
  have h : ∑ k : Fin 4, ∑ a : Fin 512, f (row k a) = ∑ i, f i := by
    rw [← Fintype.sum_prod_type' (f := fun (k : Fin 4) (a : Fin 512) => f (row k a))]
    refine Fintype.sum_equiv (finProdFinEquiv (m := 4) (n := 512)) _ _ fun p => congrArg f (Fin.ext ?_)
    show p.1.val * 512 + p.2.val = p.2.val + 512 * p.1.val
    omega
  rw [← h, Fin.sum_univ_four]

section
variable (m : (ℓ : Loc nD τ sig) → Buf (Elt Ideal) ℓ)

/-- The degree of node `i` by its row, and by its column. -/
def rowDeg (c : Dev nD) (i : Fin 2048) : EReal := ∑ n : Fin 2048, cut (dist m c (ix2 i n))
def colDeg (c : Dev nD) (n : Fin 2048) : EReal := ∑ i : Fin 2048, cut (dist m c (ix2 i n))
/-- Row `r` of the weights against the features of node `i` in batch entry `b`. -/
def term (c : Dev nD) (r : Fin 2) (b : Fin 8) (i : Fin 2048) : EReal := ∑ ch : Fin 256, weights m c (ix3 r ch 0) * feat m c (ix3 b i ch)

/-- The column sums of block `k`, in the whole array. -/
theorem blk_deg (c : Dev nD) (k : Fin 4) (n : Fin 2048) :
    k0_pay9 (F := Ideal) (dBlk m c k.val) (ix2 0 n) = ∑ a, cut (dist m c (ix2 (row k a) n)) := by
  rw [pay9_apply]
  exact Finset.sum_congr rfl fun a _ => congrArg cut (dBlk_apply m c k a n)

/-- The degrees after the fourth block. -/
theorem degAt_apply (c : Dev nD) (n : Fin 2048) : degAt m c 3 (ix2 0 n) = colDeg m c n := by
  refine Eq.trans ?_ (sum_blocks fun i => cut (dist m c (ix2 i n)))
  simp only [← blk_deg]
  unfold degAt degAt degAt degAt
  pointwise [k0_pay1, k0_pay3]

/-- What block `k` adds to the second term, in the whole array. -/
theorem blk_sum (c : Dev nD) (k : Fin 4) (b : Fin 8) (n : Fin 2048) :
    k0_pay13 (F := Ideal) (dBlk m c k.val) (xBlk m c k.val) (wBlk m c k.val) (ix2 b n)
      = ∑ a, term m c 1 b (row k a) * (cut (dist m c (ix2 (row k a) n)) * inv (rowDeg m c (row k a))) := by
  rw [pay13_apply]
  have hw : ∀ ch, wBlk m c k.val (ix2 1 ch) = weights m c (ix3 1 ch 0) := wBlk_apply m c ⟨k.val, by omega⟩ 1
  simp only [dBlk_apply, xBlk_apply, hw]
  rfl

/-- The second term after the fourth block. -/
theorem sumAt_apply (c : Dev nD) (b : Fin 8) (n : Fin 2048) :
    sumAt m c 3 (ix2 b n) = ∑ i, term m c 1 b i * (cut (dist m c (ix2 i n)) * inv (rowDeg m c i)) := by
  refine Eq.trans ?_ (sum_blocks fun i => term m c 1 b i * (cut (dist m c (ix2 i n)) * inv (rowDeg m c i)))
  simp only [← blk_sum]
  unfold sumAt sumAt sumAt sumAt
  pointwise [k0_pay2, k0_pay4]

/-- A node is the row of its block that it is. -/
theorem row_split (n : Fin 2048) : row ⟨n.val / 512, by omega⟩ ⟨n.val % 512, Nat.mod_lt _ (by decide)⟩ = n := Fin.ext (by
  show n.val / 512 * 512 + n.val % 512 = n.val
  omega)

/-- The first term, gathered. -/
theorem uAll_apply (c : Dev nD) (b : Fin 8) (n : Fin 2048) : uAll m c (ix2 b n) = term m c 0 b n := by
  show k0_pay12 (F := Ideal) (xBlk m c (n.val / 512)) (wBlk m c (n.val / 512)) (ix2 (n1 := 512) b ⟨n.val % 512, _⟩) = _
  rw [pay12_apply]
  have hx := fun ch => xBlk_apply m c ⟨n.val / 512, by omega⟩ b ⟨n.val % 512, Nat.mod_lt _ (by decide)⟩ ch
  have hw : ∀ ch, wBlk m c (n.val / 512) (ix2 0 ch) = weights m c (ix3 0 ch 0) := wBlk_apply m c ⟨n.val / 512, by omega⟩ 0
  simp only [row_split] at hx
  simp only [hx, hw]
  rfl

/-- The features, gathered, are the features. -/
theorem xAll_apply (c : Dev nD) (b : Fin 8) (n : Fin 2048) (ch : Fin 256) : xAll m c (ix3 b n ch) = feat m c (ix3 b n ch) := by
  show k0_pay10 (F := Ideal) (xBlk m c (n.val / 512)) (ix3 (n1 := 512) b ⟨n.val % 512, _⟩ ch) = _
  have hx := xBlk_apply m c ⟨n.val / 512, by omega⟩ b ⟨n.val % 512, Nat.mod_lt _ (by decide)⟩ ch
  simp only [row_split] at hx
  refine Eq.trans ?_ hx
  pointwise [k0_pay10]

/-- The gate the kernel computes. -/
theorem gate_apply (c : Dev nD) (b : Fin 8) (n : Fin 2048) :
    gate m c (ix2 b n) = Ideal.logistic ((term m c 0 b n
      - inv (colDeg m c n) * ∑ i, term m c 1 b i * (cut (dist m c (ix2 i n)) * inv (rowDeg m c i))) + bias m c (ix1 0)) := by
  unfold gate
  rw [pay5_apply, degAt_apply, uAll_apply, sumAt_apply]
  rw [show bBlk m c 4 (ix2 0 0) = bias m c (ix1 0) from bBlk_apply m c 4]

end

end Cert.KernelIdeal.Hand

end
-- ==== Proof.Ref.lean ====
/- What the reference computes over the reals, element by element. -/
module

public import proofs.«01_k».proof.Proof.Gen.ReferenceIdeal.Run
public import proofs.«01_k».proof.Proof.Graph
public import Idealize.ShloMosaic.PureOps.Ideal
public import Idealize.ShloMosaic.Lib.Pointwise

@[expose] public section

noncomputable section

namespace Cert.ReferenceIdeal.Value

open Cert.ReferenceIdeal Cert.ReferenceIdeal.Gen Idealize.ShloMosaic Idealize.ShloMosaic.TcCoe Idealize.SL.Sem Cert.Graph

variable (m : (ℓ : Loc nD τ sig) → Buf (Elt Ideal) ℓ)

/-- The selection the reference writes, with the zero it selects, is the cut. -/
theorem select_edge (v : EReal) :
    Scalar.select (IntOp.andi (BitVec.ofBool (decide (0 < v))) (BitVec.ofBool (decide (v < Ideal.ofBits FTy.f32 1128792064#32)))) v (0 : EReal) = edge v := by
  unfold edge
  by_cases h : 0 < v <;> by_cases h' : v < lim <;> simp [h, h', Scalar.select, IntOp.andi]

/-- The reference's result at an index: the features, and behind them the gate. -/
theorem res_apply (c : Dev nD) (b : Fin 8) (n : Fin 2048) (k : Fin 257) (x : S8x2048x256.Idx → EReal) (d : S2048x2048.Idx → EReal) (w : S2x256x1.Idx → EReal) (bb : S1.Idx → EReal)
    (hx : m ((c.tc : Thread nD τ).loc main_arg0) = x) (hd : m ((c.tc : Thread nD τ).loc main_arg1) = d)
    (hw : m ((c.tc : Thread nD τ).loc main_arg2) = w) (hb : m ((c.tc : Thread nD τ).loc main_arg3) = bb) :
    res_main_v36 m c (ix3 b n k) = if h : k.val < 256 then x (ix3 b n ⟨k.val, h⟩) else
      Ideal.logistic ((∑ ch : Fin 256, x (ix3 b n ch) * w (ix3 0 ch 0)
        + ∑ ch : Fin 256, (∑ i : Fin 2048, x (ix3 b i ch) * -((edge (d (ix2 n i)) * inv (∑ j : Fin 2048, edge (d (ix2 n j)))) * inv (∑ j : Fin 2048, edge (d (ix2 i j))))) * w (ix3 1 ch 0)) + bb (ix1 0)) := by
  unfold res_main_v36
  rw [hx, hd, hw, hb]
  have hz : (id (constant (F := Ideal) S_ FTy.f32 0#32) ix0 : EReal) = 0 := by rw [id_eq]; pointwise
  pointwise
  simp only [hz, select_edge]
  rfl

end Cert.ReferenceIdeal.Value

end
-- ==== Proof.Pre.lean ====
/- What the precondition says of the arrays, element by element. -/
module

public import proofs.«01_k».proof.Proof.Graph
public import proofs.«01_k».proof.Proof.Gen.Pre_plain_graph
public import Idealize.ShloMosaic.Lib.Pointwise

@[expose] public section

noncomputable section

namespace Cert.Pre_plain_graph

open Idealize.ShloMosaic Cert.Graph Cert.Pre_plain_graph.Gen

/-- A comparison whose word is one holds. -/
theorem of_word {p : Prop} [Decidable p] (h : BitVec.ofBool (decide p) = 1#1) : p := by
  by_contra hp
  simp [hp] at h

/-- The four parts of the precondition: the distances symmetric and at least zero, the features and the second row of the
    weights real numbers. -/
theorem reads (x : FVec Ideal S8x2048x256 .f32) (d : FVec Ideal S2048x2048 .f32) (w : FVec Ideal S2x256x1 .f32) (bb : FVec Ideal S1 .f32)
    (h : (fn (F := Ideal) x d w bb).1 = (fun _ => 1#1) ∧ (fn (F := Ideal) x d w bb).2.1 = (fun _ => 1#1)
      ∧ (fn (F := Ideal) x d w bb).2.2.1 = (fun _ => 1#1) ∧ (fn (F := Ideal) x d w bb).2.2.2 = (fun _ => 1#1)) :
    (∀ i j : Fin 2048, (d (ix2 i j) : EReal) = d (ix2 j i)) ∧ (∀ i j : Fin 2048, (0 : EReal) ≤ d (ix2 i j))
      ∧ (∀ (b : Fin 8) (i : Fin 2048) (ch : Fin 256), IsReal (x (ix3 b i ch))) ∧ ∀ ch : Fin 256, IsReal (w (ix3 1 ch 0)) := by
  obtain ⟨h1, h2, h3, h4⟩ := h
  have top : Ideal.ofBits .f32 0x7F800000#32 = (⊤ : EReal) := by simp [Ideal.ofBits, Ideal.ieee]
  refine ⟨fun i j => ?_, fun i j => ?_, fun b i ch => real_of_abs_lt ?_, fun ch => real_of_abs_lt ?_⟩
  · have := congrFun h1 (ix2 i j)
    unfold fn at this
    revert this
    pointwise
    exact of_word
  · have := congrFun h2 (ix2 i j)
    unfold fn at this
    revert this
    pointwise
    exact of_word
  · have := congrFun h3 (ix3 b i ch)
    unfold fn at this
    revert this
    pointwise
    rw [top]
    exact of_word
  · have := congrFun h4 (ix2 ch 0)
    unfold fn at this
    revert this
    pointwise
    rw [top]
    exact of_word

end Cert.Pre_plain_graph

end
-- ==== Proof.lean ====
/- The claims, gathered: the frames of the three programs, that the idealised kernel is the kernel's own text, and that over
   the reals the kernel leaves in its result what the reference leaves in its own. -/
module

public import proofs.«01_k».proof.Defs
public import proofs.«01_k».proof.Proof.Frames
public import proofs.«01_k».proof.Proof.Pay
public import proofs.«01_k».proof.Proof.Ref
public import proofs.«01_k».proof.Proof.Pre

@[expose] public section

noncomputable section

namespace Cert.Proof

open Idealize.ShloMosaic Idealize.ShloMosaic.TcCoe Idealize.SL.Sem
open Cert.KernelIdeal Cert.KernelIdeal.Gen Cert.KernelIdeal.Hand

/-- Of one launch memory each, the arguments equal and as the precondition has them, the two results are one array. -/
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Pre_KernelIdeal_plain_graph m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v36 m' c = result m c := by
  obtain ⟨hs, hd, hx, hw⟩ := Cert.Pre_plain_graph.reads _ _ _ _ (hpre c)
  funext i
  rw [eq_ix3 i]
  generalize i 0 = b
  generalize i 1 = n
  generalize i 2 = k
  refine (Cert.ReferenceIdeal.Value.res_apply m' c b n k _ _ _ _ h0 h1 h2 h3).trans ?_
  show _ = outAt (b.val + 4) _ (xAll m c) (gate m c) n k
  unfold outAt
  split
  · rename_i hk
    exact (xAll_apply m c b n ⟨k.val, hk⟩).symm
  · refine Eq.trans ?_ (gate_apply m c b n).symm
    exact congrArg Ideal.logistic (Graph.agree (fun i j => dist m c (ix2 i j)) (fun i ch => feat m c (ix3 b i ch)) (fun ch => weights m c (ix3 0 ch 0))
      (fun ch => weights m c (ix3 1 ch 0)) (bias m c (ix1 0)) n hs hd (hx b) hw)

/-- The value claim. -/
theorem algebraic : Cert.algebraic_KernelIdeal_ReferenceIdeal_pre_plain_graph := fun m g m' g' hpre hagree =>
  ⟨fun c => result m c,
    (θ_run defs _ _).mono (fun r h c => ⟨(h.1.1 c).1 4 |>.trans (result_eq m c), h.2.1 c⟩) (θ_run_and (run_main m g) (frame_any m g)),
    (θ_run Cert.ReferenceIdeal.defs _ _).mono (fun r h c => ⟨(h c).1.trans (results_agree m m' hpre c (hagree c).1 (hagree c).2.1 (hagree c).2.2.1 (hagree c).2.2.2), (h c).2⟩)
      (Cert.ReferenceIdeal.Value.run (F := Ideal) m' g')⟩

/-- The certificate's claim. -/
theorem claim : Cert.Claim := ⟨Cert.Kernel.Gen.facts, Cert.KernelIdeal.Gen.facts, Cert.ReferenceIdeal.Gen.facts, Cert.Pre_plain_graph.Gen.facts,
  frame_bits, frame_ideal, fun m g _ => frame_ideal m g trivial, frame_reference, fun m g _ => frame_reference m g trivial, trivial, algebraic⟩

end Cert.Proof

end
